-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x7168 : Shape := ⟨3, ![1, 256, 7168]⟩
abbrev S3584x18432 : Shape := ⟨2, ![3584, 18432]⟩
abbrev S18432 : Shape := ⟨1, ![18432]⟩
abbrev S256x256 : Shape := ⟨2, ![256, 256]⟩
abbrev S256x7168 : Shape := ⟨2, ![256, 7168]⟩
abbrev S1x18432 : Shape := ⟨2, ![1, 18432]⟩
abbrev S256x18432 : Shape := ⟨2, ![256, 18432]⟩
abbrev S1x256 : Shape := ⟨2, ![1, 256]⟩
abbrev S3584x1024 : Shape := ⟨2, ![3584, 1024]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S896x1024 : Shape := ⟨2, ![896, 1024]⟩
abbrev S256x3584 : Shape := ⟨2, ![256, 3584]⟩
abbrev S1x256x18432 : Shape := ⟨3, ![1, 256, 18432]⟩

abbrev nBuf : Space → Nat
  | .hbm => 11
  | .vmem => 13
  | .smem => 0
  | _ => 0

abbrev bufTy : (tb : Table) → Fin (tcTables nBuf tb) → BufTy
  | .hbm, ⟨0, _⟩ => ⟨S1x256x7168, .bf16⟩
  | .hbm, ⟨1, _⟩ => ⟨S3584x18432, .i8⟩
  | .hbm, ⟨2, _⟩ => ⟨S18432, .f32⟩
  | .hbm, ⟨3, _⟩ => ⟨S256x256, .bf16⟩
  | .hbm, ⟨4, _⟩ => ⟨S256x7168, .bf16⟩
  | .hbm, ⟨5, _⟩ => ⟨S1x18432, .f32⟩
  | .hbm, ⟨6, _⟩ => ⟨S256x18432, .bf16⟩
  | .hbm, ⟨7, _⟩ => ⟨S256x7168, .i8⟩
  | .hbm, ⟨8, _⟩ => ⟨S1x256, .f32⟩
  | .hbm, ⟨9, _⟩ => ⟨S1x256x18432, .bf16⟩
  | .hbm, ⟨10, _⟩ => ⟨S1x256x7168, .i8⟩
  | .local _ .vmem, ⟨0, _⟩ => ⟨S256x7168, .bf16⟩
  | .local _ .vmem, ⟨1, _⟩ => ⟨S256x256, .bf16⟩
  | .local _ .vmem, ⟨2, _⟩ => ⟨S3584x1024, .i8⟩
  | .local _ .vmem, ⟨3, _⟩ => ⟨S3584x1024, .i8⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x7168, .i8⟩
  | .local _ .vmem, ⟨9, _⟩ => ⟨S1x256, .f32⟩
  | .local _ .vmem, ⟨10, _⟩ => ⟨S256x7168, .f32⟩
  | .local _ .vmem, ⟨11, _⟩ => ⟨S256x7168, .bf16⟩
  | .local _ .vmem, ⟨12, _⟩ => ⟨S256x128, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x256x7168 : Shape := ⟨3, ![1, 256, 7168]⟩
abbrev S3584x18432 : Shape := ⟨2, ![3584, 18432]⟩
abbrev S18432 : Shape := ⟨1, ![18432]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S_ : Shape := ⟨0, ![]⟩
abbrev S1x256x56x128 : Shape := ⟨4, ![1, 256, 56, 128]⟩
abbrev S1x256 : Shape := ⟨2, ![1, 256]⟩
abbrev S1x256x1 : Shape := ⟨3, ![1, 256, 1]⟩
abbrev S1x256x3584 : Shape := ⟨3, ![1, 256, 3584]⟩
abbrev S1x256x18432 : Shape := ⟨3, ![1, 256, 18432]⟩
abbrev S1x1x18432 : Shape := ⟨3, ![1, 1, 18432]⟩

abbrev nBuf : Space → Nat
  | .hbm => 100
  | .vmem => 0
  | .smem => 0
  | _ => 0

abbrev bufTy : (tb : Table) → Fin (tcTables nBuf tb) → BufTy
  | .hbm, ⟨0, _⟩ => ⟨S1x256x7168, .bf16⟩
  | .hbm, ⟨1, _⟩ => ⟨S3584x18432, .i8⟩
  | .hbm, ⟨2, _⟩ => ⟨S18432, .f32⟩
  | .hbm, ⟨3, _⟩ => ⟨S2x2, .f32⟩
  | .hbm, ⟨4, _⟩ => ⟨S2x1x2x1, .f32⟩
  | .hbm, ⟨5, _⟩ => ⟨S1x2x1x2, .f32⟩
  | .hbm, ⟨6, _⟩ => ⟨S2x2x2x2, .f32⟩
  | .hbm, ⟨7, _⟩ => ⟨S2x2x2x2, .f32⟩
  | .hbm, ⟨8, _⟩ => ⟨S2x2x2x2, .f32⟩
  | .hbm, ⟨9, _⟩ => ⟨S4x4, .f32⟩
  | .hbm, ⟨10, _⟩ => ⟨S4x1x4x1, .f32⟩
  | .hbm, ⟨11, _⟩ => ⟨S1x2x1x2, .f32⟩
  | .hbm, ⟨12, _⟩ => ⟨S4x2x4x2, .f32⟩
  | .hbm, ⟨13, _⟩ => ⟨S4x2x4x2, .f32⟩
  | .hbm, ⟨14, _⟩ => ⟨S4x2x4x2, .f32⟩
  | .hbm, ⟨15, _⟩ => ⟨S8x8, .f32⟩
  | .hbm, ⟨16, _⟩ => ⟨S8x1x8x1, .f32⟩
  | .hbm, ⟨17, _⟩ => ⟨S1x2x1x2, .f32⟩
  | .hbm, ⟨18, _⟩ => ⟨S8x2x8x2, .f32⟩
  | .hbm, ⟨19, _⟩ => ⟨S8x2x8x2, .f32⟩
  | .hbm, ⟨20, _⟩ => ⟨S8x2x8x2, .f32⟩
  | .hbm, ⟨21, _⟩ => ⟨S16x16, .f32⟩
  | .hbm, ⟨22, _⟩ => ⟨S16x1x16x1, .f32⟩
  | .hbm, ⟨23, _⟩ => ⟨S1x2x1x2, .f32⟩
  | .hbm, ⟨24, _⟩ => ⟨S16x2x16x2, .f32⟩
  | .hbm, ⟨25, _⟩ => ⟨S16x2x16x2, .f32⟩
  | .hbm, ⟨26, _⟩ => ⟨S16x2x16x2, .f32⟩
  | .hbm, ⟨27, _⟩ => ⟨S32x32, .f32⟩
  | .hbm, ⟨28, _⟩ => ⟨S32x1x32x1, .f32⟩
  | .hbm, ⟨29, _⟩ => ⟨S1x2x1x2, .f32⟩
  | .hbm, ⟨30, _⟩ => ⟨S32x2x32x2, .f32⟩
  | .hbm, ⟨31, _⟩ => ⟨S32x2x32x2, .f32⟩
  | .hbm, ⟨32, _⟩ => ⟨S32x2x32x2, .f32⟩
  | .hbm, ⟨33, _⟩ => ⟨S64x64, .f32⟩
  | .hbm, ⟨34, _⟩ => ⟨S64x1x64x1, .f32⟩
  | .hbm, ⟨35, _⟩ => ⟨S1x2x1x2, .f32⟩
  | .hbm, ⟨36, _⟩ => ⟨S64x2x64x2, .f32⟩
  | .hbm, ⟨37, _⟩ => ⟨S64x2x64x2, .f32⟩
  | .hbm, ⟨38, _⟩ => ⟨S64x2x64x2, .f32⟩
  | .hbm, ⟨39, _⟩ => ⟨S128x128, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S1x256x7168, .f32⟩
  | .hbm, ⟨44, _⟩ => ⟨S1x256x56x128, .f32⟩
  | .hbm, ⟨45, _⟩ => ⟨S1x256x56x128, .f32⟩
  | .hbm, ⟨46, _⟩ => ⟨S1x256x7168, .f32⟩
  | .hbm, ⟨47, _⟩ => ⟨S1x256x7168, .f32⟩
  | .hbm, ⟨48, _⟩ => ⟨S_, .f32⟩
  | .hbm, ⟨49, _⟩ => ⟨S1x256, .f32⟩
  | .hbm, ⟨50, _⟩ => ⟨S_, .f32⟩
  | .hbm, ⟨51, _⟩ => ⟨S1x256, .f32⟩
  | .hbm, ⟨52, _⟩ => ⟨S1x256, .i1⟩
  | .hbm, ⟨53, _⟩ => ⟨S_, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S1x256x1, .f32⟩
  | .hbm, ⟨60, _⟩ => ⟨S1x256x7168, .f32⟩
  | .hbm, ⟨61, _⟩ => ⟨S1x256x7168, .f32⟩
  | .hbm, ⟨62, _⟩ => ⟨S1x256x7168, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1x256x7168, .f32⟩
  | .hbm, ⟨67, _⟩ => ⟨S1x256x7168, .f32⟩
  | .hbm, ⟨68, _⟩ => ⟨S_, .f32⟩
  | .hbm, ⟨69, _⟩ => ⟨S1x256x7168, .f32⟩
  | .hbm, ⟨70, _⟩ => ⟨S1x256x7168, .f32⟩
  | .hbm, ⟨71, _⟩ => ⟨S1x256x7168, .i32⟩
  | .hbm, ⟨72, _⟩ => ⟨S1x256x7168, .i8⟩
  | .hbm, ⟨73, _⟩ => ⟨S1x256x7168, .i32⟩
  | .hbm, ⟨74, _⟩ => ⟨S1x256x7168, .bf16⟩
  | .hbm, ⟨75, _⟩ => ⟨S3584x18432, .i8⟩
  | .hbm, ⟨76, _⟩ => ⟨S3584x18432, .i32⟩
  | .hbm, ⟨77, _⟩ => ⟨S_, .i32⟩
  | .hbm, ⟨78, _⟩ => ⟨S3584x18432, .i32⟩
  | .hbm, ⟨79, _⟩ => ⟨S3584x18432, .i32⟩
  | .hbm, ⟨80, _⟩ => ⟨S_, .i32⟩
  | .hbm, ⟨81, _⟩ => ⟨S3584x18432, .i32⟩
  | .hbm, ⟨82, _⟩ => ⟨S3584x18432, .i32⟩
  | .hbm, ⟨83, _⟩ => ⟨S_, .i32⟩
  | .hbm, ⟨84, _⟩ => ⟨S3584x18432, .i32⟩
  | .hbm, ⟨85, _⟩ => ⟨S3584x18432, .i32⟩
  | .hbm, ⟨86, _⟩ => ⟨S3584x18432, .bf16⟩
  | .hbm, ⟨87, _⟩ => ⟨S3584x18432, .bf16⟩
  | .hbm, ⟨88, _⟩ => ⟨S1x256x3584, .bf16⟩
  | .hbm, ⟨89, _⟩ => ⟨S1x256x18432, .f32⟩
  | .hbm, ⟨90, _⟩ => ⟨S1x256x3584, .bf16⟩
  | .hbm, ⟨91, _⟩ => ⟨S1x256x18432, .f32⟩
  | .hbm, ⟨92, _⟩ => ⟨S1x256x18432, .f32⟩
  | .hbm, ⟨93, _⟩ => ⟨S1x256x1, .f32⟩
  | .hbm, ⟨94, _⟩ => ⟨S1x256x18432, .f32⟩
  | .hbm, ⟨95, _⟩ => ⟨S1x256x18432, .f32⟩
  | .hbm, ⟨96, _⟩ => ⟨S1x1x18432, .f32⟩
  | .hbm, ⟨97, _⟩ => ⟨S1x256x18432, .f32⟩
  | .hbm, ⟨98, _⟩ => ⟨S1x256x18432, .f32⟩
  | .hbm, ⟨99, _⟩ => ⟨S1x256x18432, .bf16⟩
  | _, _ => ⟨S1x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v1 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v2 : Ref sig .tc := ⟨.hbm, 21, rfl⟩
abbrev main_call3_v0 : Ref sig .tc := ⟨.hbm, 22, rfl⟩
abbrev main_call3_v1 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_v3 : Ref sig .tc := ⟨.hbm, 27, rfl⟩
abbrev main_call4_v0 : Ref sig .tc := ⟨.hbm, 28, rfl⟩
abbrev main_call4_v1 : Ref sig .tc := ⟨.hbm, 29, rfl⟩
abbrev main_call4_v2 : Ref sig .tc := ⟨.hbm, 30, rfl⟩
abbrev main_call4_v3 : Ref sig .tc := ⟨.hbm, 31, rfl⟩
abbrev main_call4_v4 : Ref sig .tc := ⟨.hbm, 32, rfl⟩
abbrev main_v4 : Ref sig .tc := ⟨.hbm, 33, rfl⟩
abbrev main_call5_v0 : Ref sig .tc := ⟨.hbm, 34, rfl⟩
abbrev main_call5_v1 : Ref sig .tc := ⟨.hbm, 35, rfl⟩
abbrev main_call5_v2 : Ref sig .tc := ⟨.hbm, 36, rfl⟩
abbrev main_call5_v3 : Ref sig .tc := ⟨.hbm, 37, rfl⟩
abbrev main_call5_v4 : Ref sig .tc := ⟨.hbm, 38, rfl⟩
abbrev main_v5 : Ref sig .tc := ⟨.hbm, 39, rfl⟩
abbrev main_cst_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_cst_2 : Ref sig .tc := ⟨.hbm, 50, rfl⟩
abbrev main_v14 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_cst_4 : Ref sig .tc := ⟨.hbm, 56, rfl⟩
abbrev main_call6_v0 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_5 : Ref sig .tc := ⟨.hbm, 63, rfl⟩
abbrev main_cst_6 : Ref sig .tc := ⟨.hbm, 64, rfl⟩
abbrev main_call8_v0 : Ref sig .tc := ⟨.hbm, 65, rfl⟩
abbrev main_call8_v1 : Ref sig .tc := ⟨.hbm, 66, rfl⟩
abbrev main_call8_v2 : Ref sig .tc := ⟨.hbm, 67, rfl⟩
abbrev main_call8_v3 : Ref sig .tc := ⟨.hbm, 68, rfl⟩
abbrev main_call8_v4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_c : Ref sig .tc := ⟨.hbm, 77, rfl⟩
abbrev main_v30 : Ref sig .tc := ⟨.hbm, 78, rfl⟩
abbrev main_v31 : Ref sig .tc := ⟨.hbm, 79, rfl⟩
abbrev main_c_7 : Ref sig .tc := ⟨.hbm, 80, rfl⟩
abbrev main_v32 : Ref sig .tc := ⟨.hbm, 81, rfl⟩
abbrev main_v33 : Ref sig .tc := ⟨.hbm, 82, rfl⟩
abbrev main_c_8 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩

abbrev nD : Nat := 1
abbrev τ : Topo := Topo.v7x

variable {F : FTy → Type} [FloatOps F]
-- ==== Proof.BodyK.Runs.lean ====
/- The body of the kernel at each grid point: its condition, its staging buffers and its scratch buffers, point by point. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x20000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x20000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → cfg0.idle 6 (grid0.coords t) = true := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cfg0.fresh 6 t.val = false := by
  intro t; rw [fresh0_6_eq t]; revert t; decide +kernel

/-! ## The kernel body on any staging memrefs: a subtype the run finds -/

/-- One staging buffer of output window 4, through which its contents are stated (`View.read_writes_of_cover`: the
    choice does not matter). -/
abbrev VO0_4 : View sig .tc .vmem S256x1024 .bf16 := (Memref.whole cc0_stg4_0 : Memref sig .tc .vmem S256x1024 .bf16).view
/-- One staging buffer of output window 5, through which its contents are stated (`View.read_writes_of_cover`: the
    choice does not matter). -/
abbrev VO0_5 : View sig .tc .vmem S256x7168 .i8 := (Memref.whole cc0_stg5_0 : Memref sig .tc .vmem S256x7168 .i8).view
/-- One staging buffer of output window 6, through which its contents are stated (`View.read_writes_of_cover`: the
    choice does not matter). -/
abbrev VO0_6 : View sig .tc .vmem S1x256 .f32 := (Memref.whole cc0_stg6_0 : Memref sig .tc .vmem S1x256 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x7168 .f32 := Memref.whole cc0_scratch0
abbrev scM0_1 : Memref sig .tc .vmem S256x7168 .bf16 := Memref.whole cc0_scratch1
abbrev scM0_2 : Memref sig .tc .vmem S256x128 .f32 := Memref.whole cc0_scratch2
/-- The scratch `arg9` the kernel carries between points, as a view: what it holds is stated through it. -/
abbrev VS0_1 : View sig .tc .vmem S256x7168 .bf16 := scM0_1.view
/-- The scratch `arg10` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.BodyK.RunA.lean ====
/- The body at the first grid point, run whole. -/
module

public import proofs.«01_k».proof.Proof.BodyK.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1376000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) :
    Σ' (L4 : List (View.Piece (Elt F) S256x1024 .bf16)), Σ' (L5 : List (View.Piece (Elt F) S256x7168 .i8)), Σ' (L6 : List (View.Piece (Elt F) S1x256 .f32)), Σ' (LS1 : List (View.Piece (Elt F) S256x7168 .bf16)), Σ' (LS2 : List (View.Piece (Elt F) S256x128 .f32)), { LT0 : List (View.Piece (Elt F) S256x7168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_had_w4a8 i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_had_w4a8_eq_skeleton]; unfold cc0_had_w4a8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Gen

end
-- ==== Proof.BodyK.RunB.lean ====
/- The body at every later grid point, run whole. -/
module

public import proofs.«01_k».proof.Proof.BodyK.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 17: 17 of 18), WITH the
    proof that on whole staging memrefs — the inputs' at their contents, the outputs it reads before covering (5, 6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) :
    Σ' (L4 : List (View.Piece (Elt F) S256x1024 .bf16)), Σ' (L5 : List (View.Piece (Elt F) S256x7168 .i8)), Σ' (L6 : List (View.Piece (Elt F) S1x256 .f32)), Σ' (LS1 : List (View.Piece (Elt F) S256x7168 .bf16)), Σ' (LS2 : List (View.Piece (Elt F) S256x128 .f32)), { LT0 : List (View.Piece (Elt F) S256x7168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ (∃ d, owns (c : Thread nD τ) arg8 fullShare d) ∗ owns (c : Thread nD τ) arg9 fullShare xs1 ∗ owns (c : Thread nD τ) arg10 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ (∃ d, owns (c : Thread nD τ) arg8 fullShare d) ∗ owns (c : Thread nD τ) arg9 fullShare xs1 ∗ owns (c : Thread nD τ) arg10 fullShare xs2) -∗ K ⟨⟩))
          ⊢ wp frame (wpE (defs₀ (F := F)) Variants.none c none) E (cc0_had_w4a8 i arg1 harg1 arg2 harg2 arg3 harg3 arg4 harg4 arg5 harg5 arg6 harg6 arg7 harg7 arg8 harg8 arg9 harg9 arg10 harg10) K } := by
  refine ⟨?_, [], [], [], [], [], fun E K => ?run⟩
  case run =>
    simp only [cc0_had_w4a8_eq_skeleton]; unfold cc0_had_w4a8_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg9.eq_unread hfs1; obtain rfl := harg10.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _, _; isplitr; swap; · iexact HS0
      ipureintro; rfl
    isplitl [HS1]
    · iexists _; isplitr; · ipureintro; exact harg9.read_unread _
      iexact HS1
    iexists _; isplitr; · ipureintro; exact harg10.read_unread _
    iexact HS2

end Cert.Kernel.Gen

end
-- ==== Proof.BodyK.Launch.lean ====
/- The body at every grid point, the launch of the kernel, and the frame of the kernel. -/
module

public import proofs.«01_k».proof.Proof.BodyK.RunA
public import proofs.«01_k».proof.Proof.BodyK.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (1 store of `S256x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).1 S256x1024.size (by sl_kernel_rfl) y

/-- What case A leaves in output 4's staging buffer: its pieces read back over junk. -/
def out0_A_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x1024 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 x0 x1 x2 x3).1)

/-- Case A's pieces for output 5 tile its block (28 stores of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x7168.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.1 S256x256.size (by sl_kernel_rfl) y

/-- What case A leaves in output 5's staging buffer: its pieces read back over junk. -/
def out0_A_5 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x7168 .i8 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 x0 x1 x2 x3).2.1)

/-- Case A's pieces for output 6 tile its block (1 store of `S1x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.1 S1x256.size (by sl_kernel_rfl) y

/-- What case A leaves in output 6's staging buffer: its pieces read back over junk. -/
def out0_A_6 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S1x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 x0 x1 x2 x3).2.2.1)

/-- Case A's pieces for scratch `arg9`, which the kernel carries between points, cover it: 28 pieces of `S256x256` tiling it (Lib/Ring.lean `Piece.tiledL`). -/
theorem scover0_A_1 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x7168.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.1 S256x256.size (by sl_kernel_rfl) y

/-- What case A leaves in scratch `arg9`: its pieces read back over junk. -/
def sout0_A_1 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x7168 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 x0 x1 x2 x3).2.2.2.1)

/-- Case A's pieces for scratch `arg10`, which the kernel carries between points, cover it: 1 piece of `S256x128` tiling it (Lib/Ring.lean `Piece.tiledL`). -/
theorem scover0_A_2 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.1 S256x128.size (by sl_kernel_rfl) y

/-- What case A leaves in scratch `arg10`: its pieces read back over junk. -/
def sout0_A_2 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 hc0 x0 x1 x2 x3).2.2.2.2.1)

/-- Case B's pieces for output 4 tile its block (1 store of `S256x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) (y : S256x1024.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo5 xo6 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo5 xo6 xs1 xs2).1 S256x1024.size (by sl_kernel_rfl) y

/-- What case B leaves in output 4's staging buffer: its pieces read back over junk. -/
def out0_B_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x1024 .bf16 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 x0 x1 x2 x3 xo5 xo6 xs1 xs2).1)

/-- Case B stores nothing into output 5, a live window: its staging buffer holds what the point before left. -/
def out0_B_5 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x7168 .i8 := xo5

/-- Case B stores nothing into output 6, a live window: its staging buffer holds what the point before left. -/
def out0_B_6 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S1x256 .f32 := xo6

/-- Case B stores nothing into scratch `arg9`: it holds what the point before left. -/
def sout0_B_1 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x7168 .bf16 := xs1

/-- Case B stores nothing into scratch `arg10`: it holds what the point before left. -/
def sout0_B_2 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1024 .bf16 × Vec F S256x7168 .i8 × Vec F S1x256 .f32 × Vec F S256x7168 .bf16 × Vec F S256x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 18 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 18 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 18 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 18 := lt_of_lt_of_eq t.isLt (show cfg0.N = 18 from N_0)
  rw [after0_5, after0_5]
  by_cases h0 : t.val % 18 = 0
  · rw [liveAt0_5_A t ((hcond0_0 t).mpr h0)] at hi
    exact absurd hi Bool.false_ne_true
  · rw [outsAt0_B m c t h0]
    unfold out0_B_5; rfl

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 18 := lt_of_lt_of_eq t.isLt (show cfg0.N = 18 from N_0)
  rw [after0_6, after0_6]
  by_cases h0 : t.val % 18 = 0
  · rw [liveAt0_6_A t ((hcond0_0 t).mpr h0)] at hi
    exact absurd hi Bool.false_ne_true
  · rw [outsAt0_B m c t h0]
    unfold out0_B_6; rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 18 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 18 = 0) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- At a point of case B output 5's buffer, left at what the point before left, is what the pipeline asks of the body there:
    at a point that does not write the block back, the contents the body found; at the last point, which does, the
    contents the proof data name, which are the same. -/
theorem leaves0_5_B (c : Dev nD) (t : Fin cfg0.N) (h0 : ¬t.val % 18 = 0) :
    owns (c : Thread nD τ) (ms0_5 t) fullShare ((outsAt0 m c (t.val - 1) (Nat.lt_of_le_of_lt (Nat.sub_le _ _) t.isLt)).2.1)
      ⊢ (dats m 0 c).leavesExact 5 t := by
  unfold Dat.leavesExact
  rw [idleAt0_5_B t (fun h => h0 ((hcond0_0 t).mp h))]
  cases hf : (cfg0.win 5).flush t
  · dsimp only
    iintro H
    iexists (fun _ => default)
    rw [before0_5_B m c t h0]
    iexact H
  · dsimp only
    rw [after0_5, outsAt0_B m c t h0]
    unfold out0_B_5
    exact Idealize.SL.BI.Entails.refl _

/-- At a point of case B output 6's buffer, left at what the point before left, is what the pipeline asks of the body there:
    at a point that does not write the block back, the contents the body found; at the last point, which does, the
    contents the proof data name, which are the same. -/
theorem leaves0_6_B (c : Dev nD) (t : Fin cfg0.N) (h0 : ¬t.val % 18 = 0) :
    owns (c : Thread nD τ) (ms0_6 t) fullShare ((outsAt0 m c (t.val - 1) (Nat.lt_of_le_of_lt (Nat.sub_le _ _) t.isLt)).2.2.1)
      ⊢ (dats m 0 c).leavesExact 6 t := by
  unfold Dat.leavesExact
  rw [idleAt0_6_B t (fun h => h0 ((hcond0_0 t).mp h))]
  cases hf : (cfg0.win 6).flush t
  · dsimp only
    iintro H
    iexists (fun _ => default)
    rw [before0_6_B m c t h0]
    iexact H
  · dsimp only
    rw [after0_6, outsAt0_B m c t h0]
    unfold out0_B_6
    exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 18 := lt_of_lt_of_eq t.isLt (show cfg0.N = 18 from N_0)
  by_cases h0 : t.val % 18 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    by_cases hz : t.val = 0
    · rw [PhiS_castSucc m c t, PhiS_zero m c _ _ hz, PhiA0_eq]
      rw [outsAt0_A m c t h0]
      unfold out0_A_4 out0_A_5 out0_A_6 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%fT0, HS0⟩, ⟨%es1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _ _)
    · exfalso; have hN : t.val < 18 := lt_of_lt_of_eq t.isLt (show cfg0.N = 18 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 18 := lt_of_lt_of_eq t.isLt (show cfg0.N = 18 from N_0); omega
    · rw [PhiS_castSucc m c t, PhiS_pos m c _ _ hz]
      rw [outsAt0_B m c t h0]
      simp only [before0_5_B m c t h0, before0_6_B m c t h0]
      unfold out0_B_4 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, ⟨%e4, H4⟩, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _ _)
      isplitl [H5]; · iapply (leaves0_5_B m c t h0); iexact H5
      iapply (leaves0_6_B m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 18 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Body.Runs.lean ====
/- The body of the kernel at each grid point: its condition, its staging buffers and its scratch buffers, point by point. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x20000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel
/-- Whether output 6's buffer is FRESH at each position `1 ‥ N` — holds nothing the body stored since the region's entry or the
    last write-back (written back at the point before, or idle there and fresh before it) —, as a bitmask the classifier
    computed, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x20000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → cfg0.idle 6 (grid0.coords t) = true := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cfg0.fresh 6 t.val = false := by
  intro t; rw [fresh0_6_eq t]; revert t; decide +kernel

/-! ## The kernel body on any staging memrefs: a subtype the run finds -/

/-- One staging buffer of output window 4, through which its contents are stated (`View.read_writes_of_cover`: the
    choice does not matter). -/
abbrev VO0_4 : View sig .tc .vmem S256x1024 .bf16 := (Memref.whole cc0_stg4_0 : Memref sig .tc .vmem S256x1024 .bf16).view
/-- One staging buffer of output window 5, through which its contents are stated (`View.read_writes_of_cover`: the
    choice does not matter). -/
abbrev VO0_5 : View sig .tc .vmem S256x7168 .i8 := (Memref.whole cc0_stg5_0 : Memref sig .tc .vmem S256x7168 .i8).view
/-- One staging buffer of output window 6, through which its contents are stated (`View.read_writes_of_cover`: the
    choice does not matter). -/
abbrev VO0_6 : View sig .tc .vmem S1x256 .f32 := (Memref.whole cc0_stg6_0 : Memref sig .tc .vmem S1x256 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x7168 .f32 := Memref.whole cc0_scratch0
abbrev scM0_1 : Memref sig .tc .vmem S256x7168 .bf16 := Memref.whole cc0_scratch1
abbrev scM0_2 : Memref sig .tc .vmem S256x128 .f32 := Memref.whole cc0_scratch2
/-- The scratch `arg9` the kernel carries between points, as a view: what it holds is stated through it. -/
abbrev VS0_1 : View sig .tc .vmem S256x7168 .bf16 := scM0_1.view
/-- The scratch `arg10` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Body.RunA.lean ====
/- The body at the first grid point, run whole. -/
module

public import proofs.«01_k».proof.Proof.Body.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1376000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) :
    Σ' (L4 : List (View.Piece (Elt F) S256x1024 .bf16)), Σ' (L5 : List (View.Piece (Elt F) S256x7168 .i8)), Σ' (L6 : List (View.Piece (Elt F) S1x256 .f32)), Σ' (LS1 : List (View.Piece (Elt F) S256x7168 .bf16)), Σ' (LS2 : List (View.Piece (Elt F) S256x128 .f32)), { LT0 : List (View.Piece (Elt F) S256x7168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_had_w4a8 i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_had_w4a8_eq_skeleton]; unfold cc0_had_w4a8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Gen

end
-- ==== Proof.Body.RunB.lean ====
/- The body at every later grid point, run whole. -/
module

public import proofs.«01_k».proof.Proof.Body.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 17: 17 of 18), WITH the
    proof that on whole staging memrefs — the inputs' at their contents, the outputs it reads before covering (5, 6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) :
    Σ' (L4 : List (View.Piece (Elt F) S256x1024 .bf16)), Σ' (L5 : List (View.Piece (Elt F) S256x7168 .i8)), Σ' (L6 : List (View.Piece (Elt F) S1x256 .f32)), Σ' (LS1 : List (View.Piece (Elt F) S256x7168 .bf16)), Σ' (LS2 : List (View.Piece (Elt F) S256x128 .f32)), { LT0 : List (View.Piece (Elt F) S256x7168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ (∃ d, owns (c : Thread nD τ) arg8 fullShare d) ∗ owns (c : Thread nD τ) arg9 fullShare xs1 ∗ owns (c : Thread nD τ) arg10 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ (∃ d, owns (c : Thread nD τ) arg8 fullShare d) ∗ owns (c : Thread nD τ) arg9 fullShare xs1 ∗ owns (c : Thread nD τ) arg10 fullShare xs2) -∗ K ⟨⟩))
          ⊢ wp frame (wpE (defs₀ (F := F)) Variants.none c none) E (cc0_had_w4a8 i arg1 harg1 arg2 harg2 arg3 harg3 arg4 harg4 arg5 harg5 arg6 harg6 arg7 harg7 arg8 harg8 arg9 harg9 arg10 harg10) K } := by
  refine ⟨?_, [], [], [], [], [], fun E K => ?run⟩
  case run =>
    simp only [cc0_had_w4a8_eq_skeleton]; unfold cc0_had_w4a8_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg9.eq_unread hfs1; obtain rfl := harg10.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _, _; isplitr; swap; · iexact HS0
      ipureintro; rfl
    isplitl [HS1]
    · iexists _; isplitr; · ipureintro; exact harg9.read_unread _
      iexact HS1
    iexists _; isplitr; · ipureintro; exact harg10.read_unread _
    iexact HS2

end Cert.KernelIdeal.Gen

end
-- ==== Proof.Body.Launch.lean ====
/- The body at every grid point, the launch of the kernel, and the frame of the kernel. -/
module

public import proofs.«01_k».proof.Proof.Body.RunA
public import proofs.«01_k».proof.Proof.Body.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (1 store of `S256x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).1 S256x1024.size (by sl_kernel_rfl) y

/-- What case A leaves in output 4's staging buffer: its pieces read back over junk. -/
def out0_A_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x1024 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 x0 x1 x2 x3).1)

/-- Case A's pieces for output 5 tile its block (28 stores of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x7168.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.1 S256x256.size (by sl_kernel_rfl) y

/-- What case A leaves in output 5's staging buffer: its pieces read back over junk. -/
def out0_A_5 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x7168 .i8 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 x0 x1 x2 x3).2.1)

/-- Case A's pieces for output 6 tile its block (1 store of `S1x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.1 S1x256.size (by sl_kernel_rfl) y

/-- What case A leaves in output 6's staging buffer: its pieces read back over junk. -/
def out0_A_6 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S1x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 x0 x1 x2 x3).2.2.1)

/-- Case A's pieces for scratch `arg9`, which the kernel carries between points, cover it: 28 pieces of `S256x256` tiling it (Lib/Ring.lean `Piece.tiledL`). -/
theorem scover0_A_1 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x7168.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.1 S256x256.size (by sl_kernel_rfl) y

/-- What case A leaves in scratch `arg9`: its pieces read back over junk. -/
def sout0_A_1 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x7168 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 x0 x1 x2 x3).2.2.2.1)

/-- Case A's pieces for scratch `arg10`, which the kernel carries between points, cover it: 1 piece of `S256x128` tiling it (Lib/Ring.lean `Piece.tiledL`). -/
theorem scover0_A_2 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) (y : S256x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.1 S256x128.size (by sl_kernel_rfl) y

/-- What case A leaves in scratch `arg10`: its pieces read back over junk. -/
def sout0_A_2 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : cond0_0 i)
    (x0 : Vec F S256x7168 .bf16) (x1 : Vec F S256x256 .bf16) (x2 : Vec F S3584x1024 .i8) (x3 : Vec F S1x1024 .f32) : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 hc0 x0 x1 x2 x3).2.2.2.2.1)

/-- Case B's pieces for output 4 tile its block (1 store of `S256x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) (y : S256x1024.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo5 xo6 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo5 xo6 xs1 xs2).1 S256x1024.size (by sl_kernel_rfl) y

/-- What case B leaves in output 4's staging buffer: its pieces read back over junk. -/
def out0_B_4 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x1024 .bf16 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 x0 x1 x2 x3 xo5 xo6 xs1 xs2).1)

/-- Case B stores nothing into output 5, a live window: its staging buffer holds what the point before left. -/
def out0_B_5 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x7168 .i8 := xo5

/-- Case B stores nothing into output 6, a live window: its staging buffer holds what the point before left. -/
def out0_B_6 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S1x256 .f32 := xo6

/-- Case B stores nothing into scratch `arg9`: it holds what the point before left. -/
def sout0_B_1 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x7168 .bf16 := xs1

/-- Case B stores nothing into scratch `arg10`: it holds what the point before left. -/
def sout0_B_2 (c : Dev nD) (i : grid0.Coords) (arg1 : Memref sig .tc .vmem S256x7168 .bf16) (harg1 : arg1.IsWhole) (arg2 : Memref sig .tc .vmem S256x256 .bf16) (harg2 : arg2.IsWhole) (arg3 : Memref sig .tc .vmem S3584x1024 .i8) (harg3 : arg3.IsWhole) (arg4 : Memref sig .tc .vmem S1x1024 .f32) (harg4 : arg4.IsWhole) (arg5 : Memref sig .tc .vmem S256x1024 .bf16) (harg5 : arg5.IsWhole) (arg6 : Memref sig .tc .vmem S256x7168 .i8) (harg6 : arg6.IsWhole) (arg7 : Memref sig .tc .vmem S1x256 .f32) (harg7 : arg7.IsWhole) (arg8 : Memref sig .tc .vmem S256x7168 .f32) (harg8 : arg8.IsWhole) (arg9 : Memref sig .tc .vmem S256x7168 .bf16) (harg9 : arg9.IsWhole) (arg10 : Memref sig .tc .vmem S256x128 .f32) (harg10 : arg10.IsWhole) (hc0 : ¬cond0_0 i)
    (x0 : Vec F S256x7168 .bf16) (x1 : Vec F S256x256 .bf16) (x2 : Vec F S3584x1024 .i8) (x3 : Vec F S1x1024 .f32) (xo5 : Vec F S256x7168 .i8) (xo6 : Vec F S1x256 .f32) (xs1 : Vec F S256x7168 .bf16) (xs2 : Vec F S256x128 .f32) : Vec F S256x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1024 .bf16 × Vec F S256x7168 .i8 × Vec F S1x256 .f32 × Vec F S256x7168 .bf16 × Vec F S256x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 18 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 18 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 18 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 18 := lt_of_lt_of_eq t.isLt (show cfg0.N = 18 from N_0)
  rw [after0_5, after0_5]
  by_cases h0 : t.val % 18 = 0
  · rw [liveAt0_5_A t ((hcond0_0 t).mpr h0)] at hi
    exact absurd hi Bool.false_ne_true
  · rw [outsAt0_B m c t h0]
    unfold out0_B_5; rfl

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 18 := lt_of_lt_of_eq t.isLt (show cfg0.N = 18 from N_0)
  rw [after0_6, after0_6]
  by_cases h0 : t.val % 18 = 0
  · rw [liveAt0_6_A t ((hcond0_0 t).mpr h0)] at hi
    exact absurd hi Bool.false_ne_true
  · rw [outsAt0_B m c t h0]
    unfold out0_B_6; rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 18 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 18 = 0) (d) :
    (dats m 0 c).before 6 t d = (outsAt0 m c (t.val - 1) (Nat.lt_of_le_of_lt (Nat.sub_le _ _) t.isLt)).2.2.1 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- At a point of case B output 5's buffer, left at what the point before left, is what the pipeline asks of the body there:
    at a point that does not write the block back, the contents the body found; at the last point, which does, the
    contents the proof data name, which are the same. -/
theorem leaves0_5_B (c : Dev nD) (t : Fin cfg0.N) (h0 : ¬t.val % 18 = 0) :
    owns (c : Thread nD τ) (ms0_5 t) fullShare ((outsAt0 m c (t.val - 1) (Nat.lt_of_le_of_lt (Nat.sub_le _ _) t.isLt)).2.1)
      ⊢ (dats m 0 c).leavesExact 5 t := by
  unfold Dat.leavesExact
  rw [idleAt0_5_B t (fun h => h0 ((hcond0_0 t).mp h))]
  cases hf : (cfg0.win 5).flush t
  · dsimp only
    iintro H
    iexists (fun _ => default)
    rw [before0_5_B m c t h0]
    iexact H
  · dsimp only
    rw [after0_5, outsAt0_B m c t h0]
    unfold out0_B_5
    exact Idealize.SL.BI.Entails.refl _

/-- At a point of case B output 6's buffer, left at what the point before left, is what the pipeline asks of the body there:
    at a point that does not write the block back, the contents the body found; at the last point, which does, the
    contents the proof data name, which are the same. -/
theorem leaves0_6_B (c : Dev nD) (t : Fin cfg0.N) (h0 : ¬t.val % 18 = 0) :
    owns (c : Thread nD τ) (ms0_6 t) fullShare ((outsAt0 m c (t.val - 1) (Nat.lt_of_le_of_lt (Nat.sub_le _ _) t.isLt)).2.2.1)
      ⊢ (dats m 0 c).leavesExact 6 t := by
  unfold Dat.leavesExact
  rw [idleAt0_6_B t (fun h => h0 ((hcond0_0 t).mp h))]
  cases hf : (cfg0.win 6).flush t
  · dsimp only
    iintro H
    iexists (fun _ => default)
    rw [before0_6_B m c t h0]
    iexact H
  · dsimp only
    rw [after0_6, outsAt0_B m c t h0]
    unfold out0_B_6
    exact Idealize.SL.BI.Entails.refl _

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 18 := lt_of_lt_of_eq t.isLt (show cfg0.N = 18 from N_0)
  by_cases h0 : t.val % 18 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    by_cases hz : t.val = 0
    · rw [PhiS_castSucc m c t, PhiS_zero m c _ _ hz, PhiA0_eq]
      rw [outsAt0_A m c t h0]
      unfold out0_A_4 out0_A_5 out0_A_6 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%fT0, HS0⟩, ⟨%es1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _ _)
    · exfalso; have hN : t.val < 18 := lt_of_lt_of_eq t.isLt (show cfg0.N = 18 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 18 := lt_of_lt_of_eq t.isLt (show cfg0.N = 18 from N_0); omega
    · rw [PhiS_castSucc m c t, PhiS_pos m c _ _ hz]
      rw [outsAt0_B m c t h0]
      simp only [before0_5_B m c t h0, before0_6_B m c t h0]
      unfold out0_B_4 sout0_B_1 sout0_B_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, ⟨%e4, H4⟩, H5, H6, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _ _)
      isplitl [H5]; · iapply (leaves0_5_B m c t h0); iexact H5
      iapply (leaves0_6_B m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 18 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Value.Spec.lean ====
/- The quantities both programs compute, as functions of a rotated row: the row's largest absolute value, its
   quantisation step, the quantised entries. -/
module

public import Idealize.ShloMosaic.Lib.Pointwise

@[expose] public section

noncomputable section

open Idealize Idealize.ShloMosaic

namespace Cert.Spec

/-- The factor of the rotation, `1/√128` as a float. -/
def norm : EReal := Ideal.ofBits FTy.f32 1035273459#32
/-- The largest code, 127. -/
def top : EReal := Ideal.ofBits FTy.f32 1123942400#32
/-- The smallest code, -127. -/
def bot : EReal := Ideal.ofBits FTy.f32 3271426048#32
/-- The start of a maximum, minus infinity. -/
def low : EReal := Ideal.ofBits FTy.f32 4286578688#32

/-- The absolute value. -/
def av (x : EReal) : EReal := max x (-x)

/-- The step of a row whose largest absolute value is `mx`. -/
def step (mx : EReal) : EReal := if mx = 0 then 1 else Ideal.div mx top

/-- An entry `r` at step `s`: divided, rounded to the nearest integer, clipped to the codes. -/
def quant (s r : EReal) : EReal := min top (max bot (Ideal.liftRound Ideal.roundHalfEven (Ideal.div r s)))

/-- The largest absolute value of a row of 7168 entries. -/
def rowMax (R : ℕ → EReal) : EReal := Finset.fold max low (fun q : Fin 7168 => av (R q)) Finset.univ

/-- Lane `l` after `n` blocks of 256 columns: both halves of every block folded into 128 lanes, from zero. -/
def lane (R : ℕ → EReal) (l : ℕ) : ℕ → EReal
  | 0 => 0
  | n + 1 => max (lane R l n) (max (av (R (256 * n + l))) (av (R (256 * n + (128 + l)))))

theorem av_nonneg (x : EReal) : 0 ≤ av x := by
  unfold av
  rcases le_total 0 x with h | h
  · exact le_max_of_le_left h
  · exact le_max_of_le_right (by simpa using EReal.neg_le_neg_iff.mpr h)

theorem low_eq : low = ⊥ := by
  unfold low; simp [Ideal.ofBits, Ideal.ieee]

theorem top_eq : top = ((127 : ℝ) : EReal) := by
  unfold top; simp [Ideal.ofBits, Ideal.ieee, -EReal.coe_mul, -EReal.coe_neg]; norm_num

theorem bot_eq : bot = ((-127 : ℝ) : EReal) := by
  unfold bot; simp [Ideal.ofBits, Ideal.ieee, -EReal.coe_mul, -EReal.coe_neg]; norm_num

theorem sixteenth_eq : Ideal.ofBits FTy.f32 1031798784#32 = (((1 : ℝ) / 16 : ℝ) : EReal) := by
  simp [Ideal.ofBits, Ideal.ieee, -EReal.coe_mul, -EReal.coe_neg]; norm_num

/-- The factor of the rotation is a positive finite number. -/
theorem norm_eq : ∃ r : ℝ, 0 < r ∧ norm = (r : EReal) := by
  refine ⟨_, ?_, by unfold norm; simp [Ideal.ofBits, Ideal.ieee, -EReal.coe_mul]; rfl⟩
  positivity

theorem lane_nonneg (R : ℕ → EReal) (l n : ℕ) : 0 ≤ lane R l n := by
  induction n with
  | zero => exact le_rfl
  | succ n ih => exact le_max_of_le_left ih

/-- Every entry of the first `n` blocks lies below its lane; -/
theorem av_le_lane (R : ℕ → EReal) (l n b : ℕ) (hb : b < n) :
    av (R (256 * b + l)) ≤ lane R l n ∧ av (R (256 * b + (128 + l))) ≤ lane R l n := by
  induction n with
  | zero => omega
  | succ n ih =>
    rcases Nat.lt_succ_iff_lt_or_eq.mp hb with h | rfl
    · exact ⟨(ih h).1.trans (le_max_left _ _), (ih h).2.trans (le_max_left _ _)⟩
    · exact ⟨le_max_of_le_right (le_max_left _ _), le_max_of_le_right (le_max_right _ _)⟩

/-- and a bound of the entries bounds the lane. -/
theorem lane_le (R : ℕ → EReal) (l n : ℕ) (hl : l < 128) (c : EReal) (h0 : 0 ≤ c) (h : ∀ q < 256 * n, av (R q) ≤ c) :
    lane R l n ≤ c := by
  induction n with
  | zero => exact h0
  | succ n ih =>
    refine max_le (ih fun q hq => h q (by omega)) (max_le (h _ (by omega)) (h _ (by omega)))

/-- The 128 lanes after 28 blocks hold between them the largest absolute value of the row. -/
theorem fold_lane (R : ℕ → EReal) :
    Finset.fold max low (fun l : Fin 128 => lane R l 28) Finset.univ = rowMax R := by
  unfold rowMax
  apply le_antisymm
  · refine (Finset.fold_max_le _).mpr ⟨low_eq ▸ bot_le, fun l _ => ?_⟩
    have hq : ∀ q < 256 * 28, av (R q) ≤ Finset.fold max low (fun q : Fin 7168 => av (R q)) Finset.univ := fun q hq =>
      Finset.le_fold_max _ |>.mpr (Or.inr ⟨⟨q, by omega⟩, Finset.mem_univ _, le_rfl⟩)
    exact lane_le R l 28 l.isLt _ ((av_nonneg _).trans (hq 0 (by omega))) hq
  · refine (Finset.fold_max_le _).mpr ⟨low_eq ▸ bot_le, fun q _ => ?_⟩
    refine (Finset.le_fold_max _).mpr (Or.inr ⟨⟨q.val % 128, Nat.mod_lt _ (by omega)⟩, Finset.mem_univ _, ?_⟩)
    have hb := av_le_lane R (q.val % 128) 28 (q.val / 256) (by omega)
    by_cases h : q.val % 256 < 128
    · have e : q.val = 256 * (q.val / 256) + q.val % 128 := by omega
      exact (congrArg (fun n => av (R n)) e).le.trans hb.1
    · have e : q.val = 256 * (q.val / 256) + (128 + q.val % 128) := by omega
      exact (congrArg (fun n => av (R n)) e).le.trans hb.2

end Cert.Spec
-- ==== Proof.Value.Tile.lean ====
/- What the body leaves at a point that quantises: the rotated activations, their lanes, the steps, the codes and the
   quantised activations, each as one function of the whole array. -/
module

public import proofs.«01_k».proof.Proof.Body.Launch
public import proofs.«01_k».proof.Proof.Value.Spec

@[expose] public section

set_option maxRecDepth 16384

noncomputable section

open Idealize Idealize.ShloMosaic Cert.KernelIdeal

namespace Cert.KernelIdeal.Gen

/-- Column `q` of the rotated row `p`: the row's 256-column block times the table, times the factor. -/
def rotK (X : Vec Ideal S256x7168 .bf16) (H : Vec Ideal S256x256 .bf16) (p : Fin 256) (q : ℕ) : EReal :=
  if h : q < 7168 then
    (∑ k : Fin 256, X (ix2 p (⟨256 * (q / 256) + k, by omega⟩ : Fin 7168)) * H (ix2 k (⟨q % 256, by omega⟩ : Fin 256))) * Spec.norm
  else 0

variable (R : Fin 256 → ℕ → EReal)

/-- The rotated activations. -/
def rotA : Vec Ideal S256x7168 .f32 := fun i => R (i 0) (i 1)
/-- The rotated activations of one block of columns. -/
def rotB (o : ℕ) : Vec Ideal S256x256 .f32 := fun i => R (i 0) (o + i 1)
/-- The lanes after `n` blocks. -/
def laneA (n : ℕ) : Vec Ideal S256x128 .f32 := fun i => Spec.lane (R (i 0)) (i 1) n
/-- The step of every row. -/
def stepA : Vec Ideal S256x1 .f32 := fun i => Spec.step (Spec.rowMax (R (i 0)))
/-- The quantised activations. -/
def quantA : Vec Ideal S256x7168 .bf16 := fun i => Spec.quant (Spec.step (Spec.rowMax (R (i 0)))) (R (i 0) (i 1))
/-- The codes. -/
def codeA : Vec Ideal S256x7168 .i8 := fun i => FloatOps.fptosi (F := Ideal) (φ := .f32) 8 (quantA R i)
/-- The steps broadcast over 128 lanes. -/
def stepW : Vec Ideal S256x128 .f32 := fun i => Spec.step (Spec.rowMax (R (i 0)))
/-- The steps as a row. -/
def stepT : Vec Ideal S1x256 .f32 := fun i => Spec.step (Spec.rowMax (R (i 1)))

section
variable (X : Vec Ideal S256x7168 .bf16) (H : Vec Ideal S256x256 .bf16)

theorem rotB_eq (n : ℕ) (hn : n < 28) (o : ℕ) (ho : o = 256 * n) (inb) :
    k0_pay3 (F := Ideal) H (View.ld X (Rect.unit (s := S256x7168) ![0, o] S256x256.size inb)) = rotB (rotK X H) o := by
  subst ho
  funext j
  idx_vars j
  pointwise [k0_pay3, rotB, rotK]
  have h : 256 * n + j1.val < 7168 := by omega
  have h1 : (256 * n + j1.val) / 256 = n := by omega
  have h2 : (256 * n + j1.val) % 256 = j1.val := by omega
  rw [dif_pos h]
  simp only [h1, h2]
  rfl

/-- A store of a block's rotation is a block of the rotated activations. -/
theorem rot_store (n : ℕ) (hn : n < 28) (o : ℕ) (ho : o = 256 * n) (inb) {H' xb : Vec Ideal S256x256 .bf16} (hH : H' = H)
    (hx : xb = View.ld X (Rect.unit (s := S256x7168) ![0, o] S256x256.size inb)) (x : S256x256.Idx) :
    k0_pay4 (F := Ideal) H' xb x = rotA (rotK X H) ((Rect.unit (s := S256x7168) ![0, o] S256x256.size inb).emb x) := by
  subst hH hx
  show _ = View.ld (rotA (rotK X H')) (Rect.unit (s := S256x7168) ![0, o] S256x256.size inb) x
  have e := congrFun (rotB_eq X H' n hn o ho inb) x
  idx_vars x
  pointwise [k0_pay4, rotA]
  exact e

end

section
variable (H xb xc xd : Vec Ideal S256x256 .bf16)

/-- A load of a block of the rotated activations. -/
theorem ld_rotA (o : ℕ) (inb) :
    View.ld (rotA R) (Rect.unit (s := S256x7168) ![0, o] S256x256.size inb) = rotB R o := by
  funext j
  idx_vars j
  pointwise [rotA, rotB]

theorem lane2 (hb : k0_pay3 H xb = rotB R 0) (hc : k0_pay3 H xc = rotB R 256) : k0_pay7 H xb xc = laneA R 2 := by
  unfold k0_pay7
  rw [show k0_pay5 H xc = rotB R 256 from hc, hb]
  funext j
  idx_vars j
  pointwise [rotB, laneA, Spec.lane]
  simp only [Spec.av, Ideal.absf_def, Ideal.ofBits_zero_f32]

theorem lane3 (n o1 o2 o3 : ℕ) (h1 : o1 = 256 * n) (h2 : o2 = 256 * (n + 1)) (h3 : o3 = 256 * (n + 2))
    (hb : k0_pay3 H xb = rotB R o2) (hc : k0_pay3 H xc = rotB R o3) :
    k0_pay14 H (laneA R n) (rotB R o1) xb xc = laneA R (n + 3) := by
  subst h1 h2 h3
  unfold k0_pay14
  rw [show k0_pay10 H xb = _ from hb, show k0_pay12 H xc = _ from hc]
  funext j
  idx_vars j
  pointwise [rotB, laneA, Spec.lane]
  simp only [Spec.av, Ideal.absf_def]

theorem step_eq (hb : k0_pay3 H xb = rotB R 6912) : k0_pay68 H (laneA R 26) (rotB R 6656) xb = stepA R := by
  unfold k0_pay68
  rw [show k0_pay66 H xb = _ from hb]
  funext j
  idx_vars j
  pointwise [rotB, laneA, stepA]
  rw [← Spec.fold_lane]
  rfl

theorem stepW_eq (hb : k0_pay3 H xb = rotB R 6912) : k0_pay69 H (laneA R 26) (rotB R 6656) xb = stepW R := by
  unfold k0_pay69
  rw [step_eq R H xb hb]
  funext j
  idx_vars j
  pointwise [stepA, stepW]

theorem stepT_eq : k0_pay70 (stepW R) = stepT R := by
  funext j
  idx_vars j
  pointwise [k0_pay70, stepW, stepT]

theorem quant_store (o : ℕ) (inb) {s : Vec Ideal S256x1 .f32} {v : Vec Ideal S256x256 .f32} (hs : s = stepA R)
    (hv : v = rotB R o) (x : S256x256.Idx) :
    k0_pay77 s v x = quantA R ((Rect.unit (s := S256x7168) ![0, o] S256x256.size inb).emb x) := by
  subst hs hv
  show _ = View.ld (quantA R) (Rect.unit (s := S256x7168) ![0, o] S256x256.size inb) x
  idx_vars x
  pointwise [k0_pay77, k0_pay75, stepA, rotB, quantA]
  rfl

theorem code_store (o : ℕ) (inb) {s : Vec Ideal S256x1 .f32} {v : Vec Ideal S256x256 .f32} (hs : s = stepA R)
    (hv : v = rotB R o) (x : S256x256.Idx) :
    k0_pay76 s v x = codeA R ((Rect.unit (s := S256x7168) ![0, o] S256x256.size inb).emb x) := by
  subst hs hv
  show _ = View.ld (codeA R) (Rect.unit (s := S256x7168) ![0, o] S256x256.size inb) x
  idx_vars x
  pointwise [k0_pay76, k0_pay75, stepA, rotB, codeA, quantA]
  rfl

end

end Cert.KernelIdeal.Gen
-- ==== Proof.Value.Point.lean ====
/- The values the body's run at a quantising point leaves, read off its stores. -/
module

public import proofs.«01_k».proof.Proof.Value.Tile
public import Idealize.ShloMosaic.Lib.Pipeline.ValueKit.Basic

@[expose] public section

set_option maxRecDepth 16384

noncomputable section

open Idealize Idealize.ShloMosaic Cert.KernelIdeal

namespace Cert.KernelIdeal.Gen

section
variable (c : Dev nD) (arg1 : Memref sig .tc .vmem S256x7168 .bf16) (harg1 : arg1.IsWhole)
  (arg2 : Memref sig .tc .vmem S256x256 .bf16) (harg2 : arg2.IsWhole)
  (arg8 : Memref sig .tc .vmem S256x7168 .f32)
  (x0 : Vec Ideal S256x7168 .bf16) (x1 : Vec Ideal S256x256 .bf16)

/-- A load of an input block reads the block. -/
theorem readAt_unread {s : Shape} {e : EltTy} (m : Memref sig .tc .vmem s e) (h : m.IsWhole) (x : Vec Ideal s e) (r : Rect s) :
    m.view.readAt (Elt Ideal) r.toLoadRect (h.unread x) = View.ld x r := by
  rw [View.readAt_eq_ld, h.read_unread]

theorem r_eq : kernelRun0_A.sl.r c arg2 harg2 x1 = x1 := by
  unfold kernelRun0_A.sl.r
  rw [readAt_unread]
  exact View.ld_unit_lit _ _ (by decide)

theorem readH : arg2.view.readAt (Elt Ideal) (Rect.unit (s := S256x256) ![0, 0] S256x256.size inb_S256x256_S256x256_0_0).toLoadRect
    (harg2.unread x1) = x1 := by
  rw [readAt_unread]
  exact View.ld_unit_lit _ _ (by decide)

theorem r_1_eq : kernelRun0_A.sl.r_1 c arg1 harg1 arg2 harg2 x0 x1 = laneA (rotK x0 x1) 2 := by
  unfold kernelRun0_A.sl.r_1
  rw [readH, readAt_unread, readAt_unread]
  exact lane2 _ x1 _ _ (rotB_eq _ _ 0 (by omega) _ rfl _) (rotB_eq _ _ 1 (by omega) _ rfl _)

theorem r_2_eq : kernelRun0_A.sl.r_2 c arg1 harg1 arg2 harg2 x0 x1 = rotB (rotK x0 x1) 512 := by
  unfold kernelRun0_A.sl.r_2
  rw [readH, readAt_unread]
  exact rotB_eq _ _ 2 (by omega) _ rfl _

theorem r_3_eq : kernelRun0_A.sl.r_3 c arg1 harg1 arg2 harg2 x0 x1 = laneA (rotK x0 x1) 5 := by
  unfold kernelRun0_A.sl.r_3
  rw [r_1_eq, r_2_eq, r_eq, readAt_unread, readAt_unread]
  exact lane3 _ x1 _ _ 2 512 768 1024 rfl rfl rfl (rotB_eq _ _ 3 (by omega) _ rfl _) (rotB_eq _ _ 4 (by omega) _ rfl _)

theorem r_4_eq : kernelRun0_A.sl.r_4 c arg1 harg1 arg2 harg2 x0 x1 = rotB (rotK x0 x1) 1280 := by
  unfold kernelRun0_A.sl.r_4
  rw [r_eq, readAt_unread]
  exact rotB_eq _ _ 5 (by omega) _ rfl _

theorem r_5_eq : kernelRun0_A.sl.r_5 c arg1 harg1 arg2 harg2 x0 x1 = laneA (rotK x0 x1) 8 := by
  unfold kernelRun0_A.sl.r_5
  rw [r_3_eq, r_4_eq, r_eq, readAt_unread, readAt_unread]
  exact lane3 _ x1 _ _ 5 1280 1536 1792 rfl rfl rfl (rotB_eq _ _ 6 (by omega) _ rfl _) (rotB_eq _ _ 7 (by omega) _ rfl _)

theorem r_6_eq : kernelRun0_A.sl.r_6 c arg1 harg1 arg2 harg2 x0 x1 = rotB (rotK x0 x1) 2048 := by
  unfold kernelRun0_A.sl.r_6
  rw [r_eq, readAt_unread]
  exact rotB_eq _ _ 8 (by omega) _ rfl _

theorem r_7_eq : kernelRun0_A.sl.r_7 c arg1 harg1 arg2 harg2 x0 x1 = laneA (rotK x0 x1) 11 := by
  unfold kernelRun0_A.sl.r_7
  rw [r_5_eq, r_6_eq, r_eq, readAt_unread, readAt_unread]
  exact lane3 _ x1 _ _ 8 2048 2304 2560 rfl rfl rfl (rotB_eq _ _ 9 (by omega) _ rfl _) (rotB_eq _ _ 10 (by omega) _ rfl _)

theorem r_8_eq : kernelRun0_A.sl.r_8 c arg1 harg1 arg2 harg2 x0 x1 = rotB (rotK x0 x1) 2816 := by
  unfold kernelRun0_A.sl.r_8
  rw [r_eq, readAt_unread]
  exact rotB_eq _ _ 11 (by omega) _ rfl _

theorem r_9_eq : kernelRun0_A.sl.r_9 c arg1 harg1 arg2 harg2 x0 x1 = laneA (rotK x0 x1) 14 := by
  unfold kernelRun0_A.sl.r_9
  rw [r_7_eq, r_8_eq, r_eq, readAt_unread, readAt_unread]
  exact lane3 _ x1 _ _ 11 2816 3072 3328 rfl rfl rfl (rotB_eq _ _ 12 (by omega) _ rfl _) (rotB_eq _ _ 13 (by omega) _ rfl _)

theorem r_10_eq : kernelRun0_A.sl.r_10 c arg1 harg1 arg2 harg2 x0 x1 = rotB (rotK x0 x1) 3584 := by
  unfold kernelRun0_A.sl.r_10
  rw [r_eq, readAt_unread]
  exact rotB_eq _ _ 14 (by omega) _ rfl _

theorem r_11_eq : kernelRun0_A.sl.r_11 c arg1 harg1 arg2 harg2 x0 x1 = laneA (rotK x0 x1) 17 := by
  unfold kernelRun0_A.sl.r_11
  rw [r_9_eq, r_10_eq, r_eq, readAt_unread, readAt_unread]
  exact lane3 _ x1 _ _ 14 3584 3840 4096 rfl rfl rfl (rotB_eq _ _ 15 (by omega) _ rfl _) (rotB_eq _ _ 16 (by omega) _ rfl _)

theorem r_12_eq : kernelRun0_A.sl.r_12 c arg1 harg1 arg2 harg2 x0 x1 = rotB (rotK x0 x1) 4352 := by
  unfold kernelRun0_A.sl.r_12
  rw [r_eq, readAt_unread]
  exact rotB_eq _ _ 17 (by omega) _ rfl _

theorem r_13_eq : kernelRun0_A.sl.r_13 c arg1 harg1 arg2 harg2 x0 x1 = laneA (rotK x0 x1) 20 := by
  unfold kernelRun0_A.sl.r_13
  rw [r_11_eq, r_12_eq, r_eq, readAt_unread, readAt_unread]
  exact lane3 _ x1 _ _ 17 4352 4608 4864 rfl rfl rfl (rotB_eq _ _ 18 (by omega) _ rfl _) (rotB_eq _ _ 19 (by omega) _ rfl _)

theorem r_14_eq : kernelRun0_A.sl.r_14 c arg1 harg1 arg2 harg2 x0 x1 = rotB (rotK x0 x1) 5120 := by
  unfold kernelRun0_A.sl.r_14
  rw [r_eq, readAt_unread]
  exact rotB_eq _ _ 20 (by omega) _ rfl _

theorem r_15_eq : kernelRun0_A.sl.r_15 c arg1 harg1 arg2 harg2 x0 x1 = laneA (rotK x0 x1) 23 := by
  unfold kernelRun0_A.sl.r_15
  rw [r_13_eq, r_14_eq, r_eq, readAt_unread, readAt_unread]
  exact lane3 _ x1 _ _ 20 5120 5376 5632 rfl rfl rfl (rotB_eq _ _ 21 (by omega) _ rfl _) (rotB_eq _ _ 22 (by omega) _ rfl _)

theorem r_16_eq : kernelRun0_A.sl.r_16 c arg1 harg1 arg2 harg2 x0 x1 = rotB (rotK x0 x1) 5888 := by
  unfold kernelRun0_A.sl.r_16
  rw [r_eq, readAt_unread]
  exact rotB_eq _ _ 23 (by omega) _ rfl _

theorem r_17_eq : kernelRun0_A.sl.r_17 c arg1 harg1 arg2 harg2 x0 x1 = laneA (rotK x0 x1) 26 := by
  unfold kernelRun0_A.sl.r_17
  rw [r_15_eq, r_16_eq, r_eq, readAt_unread, readAt_unread]
  exact lane3 _ x1 _ _ 23 5888 6144 6400 rfl rfl rfl (rotB_eq _ _ 24 (by omega) _ rfl _) (rotB_eq _ _ 25 (by omega) _ rfl _)

theorem r_18_eq : kernelRun0_A.sl.r_18 c arg1 harg1 arg2 harg2 x0 x1 = rotB (rotK x0 x1) 6656 := by
  unfold kernelRun0_A.sl.r_18
  rw [r_eq, readAt_unread]
  exact rotB_eq _ _ 26 (by omega) _ rfl _

theorem r_19_eq : kernelRun0_A.sl.r_19 c arg1 harg1 arg2 harg2 x0 x1 = stepA (rotK x0 x1) := by
  unfold kernelRun0_A.sl.r_19
  rw [r_17_eq, r_18_eq, r_eq, readAt_unread]
  exact step_eq _ x1 _ (rotB_eq _ _ 27 (by omega) _ rfl _)

/-- The steps' scratch. -/
theorem HS2_eq : View.canon (kernelRun0_A.sl.HS2_1 c arg1 harg1 arg2 harg2 x0 x1) = stepW (rotK x0 x1) := by
  unfold kernelRun0_A.sl.HS2_1
  rw [View.canon_cons_unit_lit _ _ _ (by decide), r_17_eq, r_18_eq, r_eq, readAt_unread]
  exact stepW_eq _ x1 _ (rotB_eq _ _ 27 (by omega) _ rfl _)

/-- The rotated activations' scratch. -/
theorem HS0_eq : View.canon (kernelRun0_A.sl.HS0_28 c arg1 harg1 arg2 harg2 x0 x1) = rotA (rotK x0 x1) := by
  funext y
  refine View.canon_apply_of_pieces (rotA (rotK x0 x1)) _ ?_ y
    (View.cover_of_tiledL (kernelRun0_A.sl.HS0_28 c arg1 harg1 arg2 harg2 x0 x1) S256x256.size (by sl_kernel_rfl) y)
  unfold kernelRun0_A.sl.HS0_28
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩⟩⟩⟩⟩⟩⟩⟩⟩⟩⟩⟩⟩⟩⟩⟩⟩⟩⟩⟩⟩⟩⟩
  · exact rot_store x0 x1 27 (by omega) 6912 rfl _ (r_eq c arg2 harg2 x1) (readAt_unread arg1 harg1 x0 _)
  · exact rot_store x0 x1 26 (by omega) 6656 rfl _ (r_eq c arg2 harg2 x1) (readAt_unread arg1 harg1 x0 _)
  · exact rot_store x0 x1 25 (by omega) 6400 rfl _ (r_eq c arg2 harg2 x1) (readAt_unread arg1 harg1 x0 _)
  · exact rot_store x0 x1 24 (by omega) 6144 rfl _ (r_eq c arg2 harg2 x1) (readAt_unread arg1 harg1 x0 _)
  · exact rot_store x0 x1 23 (by omega) 5888 rfl _ (r_eq c arg2 harg2 x1) (readAt_unread arg1 harg1 x0 _)
  · exact rot_store x0 x1 22 (by omega) 5632 rfl _ (r_eq c arg2 harg2 x1) (readAt_unread arg1 harg1 x0 _)
  · exact rot_store x0 x1 21 (by omega) 5376 rfl _ (r_eq c arg2 harg2 x1) (readAt_unread arg1 harg1 x0 _)
  · exact rot_store x0 x1 20 (by omega) 5120 rfl _ (r_eq c arg2 harg2 x1) (readAt_unread arg1 harg1 x0 _)
  · exact rot_store x0 x1 19 (by omega) 4864 rfl _ (r_eq c arg2 harg2 x1) (readAt_unread arg1 harg1 x0 _)
  · exact rot_store x0 x1 18 (by omega) 4608 rfl _ (r_eq c arg2 harg2 x1) (readAt_unread arg1 harg1 x0 _)
  · exact rot_store x0 x1 17 (by omega) 4352 rfl _ (r_eq c arg2 harg2 x1) (readAt_unread arg1 harg1 x0 _)
  · exact rot_store x0 x1 16 (by omega) 4096 rfl _ (r_eq c arg2 harg2 x1) (readAt_unread arg1 harg1 x0 _)
  · exact rot_store x0 x1 15 (by omega) 3840 rfl _ (r_eq c arg2 harg2 x1) (readAt_unread arg1 harg1 x0 _)
  · exact rot_store x0 x1 14 (by omega) 3584 rfl _ (r_eq c arg2 harg2 x1) (readAt_unread arg1 harg1 x0 _)
  · exact rot_store x0 x1 13 (by omega) 3328 rfl _ (r_eq c arg2 harg2 x1) (readAt_unread arg1 harg1 x0 _)
  · exact rot_store x0 x1 12 (by omega) 3072 rfl _ (r_eq c arg2 harg2 x1) (readAt_unread arg1 harg1 x0 _)
  · exact rot_store x0 x1 11 (by omega) 2816 rfl _ (r_eq c arg2 harg2 x1) (readAt_unread arg1 harg1 x0 _)
  · exact rot_store x0 x1 10 (by omega) 2560 rfl _ (r_eq c arg2 harg2 x1) (readAt_unread arg1 harg1 x0 _)
  · exact rot_store x0 x1 9 (by omega) 2304 rfl _ (r_eq c arg2 harg2 x1) (readAt_unread arg1 harg1 x0 _)
  · exact rot_store x0 x1 8 (by omega) 2048 rfl _ (r_eq c arg2 harg2 x1) (readAt_unread arg1 harg1 x0 _)
  · exact rot_store x0 x1 7 (by omega) 1792 rfl _ (r_eq c arg2 harg2 x1) (readAt_unread arg1 harg1 x0 _)
  · exact rot_store x0 x1 6 (by omega) 1536 rfl _ (r_eq c arg2 harg2 x1) (readAt_unread arg1 harg1 x0 _)
  · exact rot_store x0 x1 5 (by omega) 1280 rfl _ (r_eq c arg2 harg2 x1) (readAt_unread arg1 harg1 x0 _)
  · exact rot_store x0 x1 4 (by omega) 1024 rfl _ (r_eq c arg2 harg2 x1) (readAt_unread arg1 harg1 x0 _)
  · exact rot_store x0 x1 3 (by omega) 768 rfl _ (r_eq c arg2 harg2 x1) (readAt_unread arg1 harg1 x0 _)
  · exact rot_store x0 x1 2 (by omega) 512 rfl _ (readH arg2 harg2 x1) (readAt_unread arg1 harg1 x0 _)
  · exact rot_store x0 x1 1 (by omega) 256 rfl _ (readH arg2 harg2 x1) (readAt_unread arg1 harg1 x0 _)
  · exact rot_store x0 x1 0 (by omega) 0 rfl _ (readH arg2 harg2 x1) (readAt_unread arg1 harg1 x0 _)

/-- A load of a block of the rotated activations' scratch. -/
theorem readCov_HS0 (o : ℕ) (inb) :
    arg8.view.readCov (kernelRun0_A.sl.HS0_28 c arg1 harg1 arg2 harg2 x0 x1) (Rect.unit (s := S256x7168) ![0, o] S256x256.size inb).toLoadRect
      = rotB (rotK x0 x1) o := by
  rw [View.readCov_eq_canon', HS0_eq]
  exact ld_rotA _ o inb

/-- The step the first block is quantised at. -/
theorem step0_eq : k0_pay68 (kernelRun0_A.sl.r c arg2 harg2 x1) (kernelRun0_A.sl.r_17 c arg1 harg1 arg2 harg2 x0 x1) (kernelRun0_A.sl.r_18 c arg1 harg1 arg2 harg2 x0 x1)
    (arg1.view.readAt (Elt Ideal) (Rect.unit (s := S256x7168) ![0, 6912] S256x256.size inb_S256x7168_S256x256_0_6912).toLoadRect (harg1.unread x0))
      = stepA (rotK x0 x1) := r_19_eq c arg1 harg1 arg2 harg2 x0 x1

/-- The quantised activations' scratch. -/
theorem HS1_eq : View.canon (kernelRun0_A.sl.HS1_28 c arg1 harg1 arg2 harg2 arg8 x0 x1) = quantA (rotK x0 x1) := by
  funext y
  refine View.canon_apply_of_pieces (quantA (rotK x0 x1)) _ ?_ y
    (View.cover_of_tiledL (kernelRun0_A.sl.HS1_28 c arg1 harg1 arg2 harg2 arg8 x0 x1) S256x256.size (by sl_kernel_rfl) y)
  unfold kernelRun0_A.sl.HS1_28
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩⟩⟩⟩⟩⟩⟩⟩⟩⟩⟩⟩⟩⟩⟩⟩⟩⟩⟩⟩⟩⟩⟩
  · exact quant_store _ 6912 inb_S256x7168_S256x256_0_6912 (r_19_eq c arg1 harg1 arg2 harg2 x0 x1) (readCov_HS0 c arg1 harg1 arg2 harg2 arg8 x0 x1 6912 inb_S256x7168_S256x256_0_6912)
  · exact quant_store _ 6656 inb_S256x7168_S256x256_0_6656 (r_19_eq c arg1 harg1 arg2 harg2 x0 x1) (readCov_HS0 c arg1 harg1 arg2 harg2 arg8 x0 x1 6656 inb_S256x7168_S256x256_0_6656)
  · exact quant_store _ 6400 inb_S256x7168_S256x256_0_6400 (r_19_eq c arg1 harg1 arg2 harg2 x0 x1) (readCov_HS0 c arg1 harg1 arg2 harg2 arg8 x0 x1 6400 inb_S256x7168_S256x256_0_6400)
  · exact quant_store _ 6144 inb_S256x7168_S256x256_0_6144 (r_19_eq c arg1 harg1 arg2 harg2 x0 x1) (readCov_HS0 c arg1 harg1 arg2 harg2 arg8 x0 x1 6144 inb_S256x7168_S256x256_0_6144)
  · exact quant_store _ 5888 inb_S256x7168_S256x256_0_5888 (r_19_eq c arg1 harg1 arg2 harg2 x0 x1) (readCov_HS0 c arg1 harg1 arg2 harg2 arg8 x0 x1 5888 inb_S256x7168_S256x256_0_5888)
  · exact quant_store _ 5632 inb_S256x7168_S256x256_0_5632 (r_19_eq c arg1 harg1 arg2 harg2 x0 x1) (readCov_HS0 c arg1 harg1 arg2 harg2 arg8 x0 x1 5632 inb_S256x7168_S256x256_0_5632)
  · exact quant_store _ 5376 inb_S256x7168_S256x256_0_5376 (r_19_eq c arg1 harg1 arg2 harg2 x0 x1) (readCov_HS0 c arg1 harg1 arg2 harg2 arg8 x0 x1 5376 inb_S256x7168_S256x256_0_5376)
  · exact quant_store _ 5120 inb_S256x7168_S256x256_0_5120 (r_19_eq c arg1 harg1 arg2 harg2 x0 x1) (readCov_HS0 c arg1 harg1 arg2 harg2 arg8 x0 x1 5120 inb_S256x7168_S256x256_0_5120)
  · exact quant_store _ 4864 inb_S256x7168_S256x256_0_4864 (r_19_eq c arg1 harg1 arg2 harg2 x0 x1) (readCov_HS0 c arg1 harg1 arg2 harg2 arg8 x0 x1 4864 inb_S256x7168_S256x256_0_4864)
  · exact quant_store _ 4608 inb_S256x7168_S256x256_0_4608 (r_19_eq c arg1 harg1 arg2 harg2 x0 x1) (readCov_HS0 c arg1 harg1 arg2 harg2 arg8 x0 x1 4608 inb_S256x7168_S256x256_0_4608)
  · exact quant_store _ 4352 inb_S256x7168_S256x256_0_4352 (r_19_eq c arg1 harg1 arg2 harg2 x0 x1) (readCov_HS0 c arg1 harg1 arg2 harg2 arg8 x0 x1 4352 inb_S256x7168_S256x256_0_4352)
  · exact quant_store _ 4096 inb_S256x7168_S256x256_0_4096 (r_19_eq c arg1 harg1 arg2 harg2 x0 x1) (readCov_HS0 c arg1 harg1 arg2 harg2 arg8 x0 x1 4096 inb_S256x7168_S256x256_0_4096)
  · exact quant_store _ 3840 inb_S256x7168_S256x256_0_3840 (r_19_eq c arg1 harg1 arg2 harg2 x0 x1) (readCov_HS0 c arg1 harg1 arg2 harg2 arg8 x0 x1 3840 inb_S256x7168_S256x256_0_3840)
  · exact quant_store _ 3584 inb_S256x7168_S256x256_0_3584 (r_19_eq c arg1 harg1 arg2 harg2 x0 x1) (readCov_HS0 c arg1 harg1 arg2 harg2 arg8 x0 x1 3584 inb_S256x7168_S256x256_0_3584)
  · exact quant_store _ 3328 inb_S256x7168_S256x256_0_3328 (r_19_eq c arg1 harg1 arg2 harg2 x0 x1) (readCov_HS0 c arg1 harg1 arg2 harg2 arg8 x0 x1 3328 inb_S256x7168_S256x256_0_3328)
  · exact quant_store _ 3072 inb_S256x7168_S256x256_0_3072 (r_19_eq c arg1 harg1 arg2 harg2 x0 x1) (readCov_HS0 c arg1 harg1 arg2 harg2 arg8 x0 x1 3072 inb_S256x7168_S256x256_0_3072)
  · exact quant_store _ 2816 inb_S256x7168_S256x256_0_2816 (r_19_eq c arg1 harg1 arg2 harg2 x0 x1) (readCov_HS0 c arg1 harg1 arg2 harg2 arg8 x0 x1 2816 inb_S256x7168_S256x256_0_2816)
  · exact quant_store _ 2560 inb_S256x7168_S256x256_0_2560 (r_19_eq c arg1 harg1 arg2 harg2 x0 x1) (readCov_HS0 c arg1 harg1 arg2 harg2 arg8 x0 x1 2560 inb_S256x7168_S256x256_0_2560)
  · exact quant_store _ 2304 inb_S256x7168_S256x256_0_2304 (r_19_eq c arg1 harg1 arg2 harg2 x0 x1) (readCov_HS0 c arg1 harg1 arg2 harg2 arg8 x0 x1 2304 inb_S256x7168_S256x256_0_2304)
  · exact quant_store _ 2048 inb_S256x7168_S256x256_0_2048 (r_19_eq c arg1 harg1 arg2 harg2 x0 x1) (readCov_HS0 c arg1 harg1 arg2 harg2 arg8 x0 x1 2048 inb_S256x7168_S256x256_0_2048)
  · exact quant_store _ 1792 inb_S256x7168_S256x256_0_1792 (r_19_eq c arg1 harg1 arg2 harg2 x0 x1) (readCov_HS0 c arg1 harg1 arg2 harg2 arg8 x0 x1 1792 inb_S256x7168_S256x256_0_1792)
  · exact quant_store _ 1536 inb_S256x7168_S256x256_0_1536 (r_19_eq c arg1 harg1 arg2 harg2 x0 x1) (readCov_HS0 c arg1 harg1 arg2 harg2 arg8 x0 x1 1536 inb_S256x7168_S256x256_0_1536)
  · exact quant_store _ 1280 inb_S256x7168_S256x256_0_1280 (r_19_eq c arg1 harg1 arg2 harg2 x0 x1) (readCov_HS0 c arg1 harg1 arg2 harg2 arg8 x0 x1 1280 inb_S256x7168_S256x256_0_1280)
  · exact quant_store _ 1024 inb_S256x7168_S256x256_0_1024 (r_19_eq c arg1 harg1 arg2 harg2 x0 x1) (readCov_HS0 c arg1 harg1 arg2 harg2 arg8 x0 x1 1024 inb_S256x7168_S256x256_0_1024)
  · exact quant_store _ 768 inb_S256x7168_S256x256_0_768 (r_19_eq c arg1 harg1 arg2 harg2 x0 x1) (readCov_HS0 c arg1 harg1 arg2 harg2 arg8 x0 x1 768 inb_S256x7168_S256x256_0_768)
  · exact quant_store _ 512 inb_S256x7168_S256x256_0_512 (r_19_eq c arg1 harg1 arg2 harg2 x0 x1) (readCov_HS0 c arg1 harg1 arg2 harg2 arg8 x0 x1 512 inb_S256x7168_S256x256_0_512)
  · exact quant_store _ 256 inb_S256x7168_S256x256_0_256 (r_19_eq c arg1 harg1 arg2 harg2 x0 x1) (readCov_HS0 c arg1 harg1 arg2 harg2 arg8 x0 x1 256 inb_S256x7168_S256x256_0_256)
  · exact quant_store _ 0 inb_S256x7168_S256x256_0_0 (step0_eq c arg1 harg1 arg2 harg2 x0 x1) (readCov_HS0 c arg1 harg1 arg2 harg2 arg8 x0 x1 0 inb_S256x7168_S256x256_0_0)

end
end Cert.KernelIdeal.Gen
-- ==== Proof.Value.Out.lean ====
/- What the body leaves in its outputs and in the scratch it keeps, at a quantising point and at any other. -/
module

public import proofs.«01_k».proof.Proof.Value.Point

@[expose] public section

set_option maxRecDepth 16384

noncomputable section

open Idealize Idealize.ShloMosaic Cert.KernelIdeal

namespace Cert.KernelIdeal.Gen

/-- A tile of the product, of the quantised activations, the steps, a tile of the packed weights and its scales. -/
def tileY (q : Vec Ideal S256x7168 .bf16) (sc : Vec Ideal S256x128 .f32) (w : Vec Ideal S3584x1024 .i8)
    (ws : Vec Ideal S1x1024 .f32) : Vec Ideal S256x1024 .bf16 :=
  k0_pay2 (F := Ideal) w (View.ld q (Rect.unit (s := S256x7168) ![0, 0] ![256, 3584] inb_S256x7168_S256x3584_0_0))
    (View.ld q (Rect.unit (s := S256x7168) ![0, 3584] ![256, 3584] inb_S256x7168_S256x3584_0_3584))
    (View.ld sc (Rect.unit (s := S256x128) ![0, 0] ![256, 1] inb_S256x128_S256x1_0_0)) ws

section
variable (c : Dev nD) (i : grid0.Coords)
  (arg1 : Memref sig .tc .vmem S256x7168 .bf16) (harg1 : arg1.IsWhole)
  (arg2 : Memref sig .tc .vmem S256x256 .bf16) (harg2 : arg2.IsWhole)
  (arg3 : Memref sig .tc .vmem S3584x1024 .i8) (harg3 : arg3.IsWhole)
  (arg4 : Memref sig .tc .vmem S1x1024 .f32) (harg4 : arg4.IsWhole)
  (arg5 : Memref sig .tc .vmem S256x1024 .bf16) (harg5 : arg5.IsWhole)
  (arg6 : Memref sig .tc .vmem S256x7168 .i8) (harg6 : arg6.IsWhole)
  (arg7 : Memref sig .tc .vmem S1x256 .f32) (harg7 : arg7.IsWhole)
  (arg8 : Memref sig .tc .vmem S256x7168 .f32) (harg8 : arg8.IsWhole)
  (arg9 : Memref sig .tc .vmem S256x7168 .bf16) (harg9 : arg9.IsWhole)
  (arg10 : Memref sig .tc .vmem S256x128 .f32) (harg10 : arg10.IsWhole)
  (x0 : Vec Ideal S256x7168 .bf16) (x1 : Vec Ideal S256x256 .bf16) (x2 : Vec Ideal S3584x1024 .i8) (x3 : Vec Ideal S1x1024 .f32)

theorem out0_A_5_eq (hc0 : cond0_0 i) : out0_A_5 c i arg1 harg1 arg2 harg2 arg3 harg3 arg4 harg4 arg5 harg5 arg6 harg6 arg7 harg7 arg8 harg8 arg9 harg9 arg10 harg10 hc0 x0 x1 x2 x3 = codeA (rotK x0 x1) := by
  unfold out0_A_5
  rw [View.read_writes_junk_eq_canon]
  funext y
  refine View.canon_apply_of_pieces (codeA (rotK x0 x1)) _ ?_ y
    (cover0_A_5 c i arg1 harg1 arg2 harg2 arg3 harg3 arg4 harg4 arg5 harg5 arg6 harg6 arg7 harg7 arg8 harg8 arg9 harg9 arg10 harg10 hc0 x0 x1 x2 x3 y)
  unfold kernelRun0_A
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩⟩⟩⟩⟩⟩⟩⟩⟩⟩⟩⟩⟩⟩⟩⟩⟩⟩⟩⟩⟩⟩⟩
  · exact code_store _ 6912 inb_S256x7168_S256x256_0_6912 (r_19_eq c arg1 harg1 arg2 harg2 x0 x1) (readCov_HS0 c arg1 harg1 arg2 harg2 arg8 x0 x1 6912 inb_S256x7168_S256x256_0_6912)
  · exact code_store _ 6656 inb_S256x7168_S256x256_0_6656 (r_19_eq c arg1 harg1 arg2 harg2 x0 x1) (readCov_HS0 c arg1 harg1 arg2 harg2 arg8 x0 x1 6656 inb_S256x7168_S256x256_0_6656)
  · exact code_store _ 6400 inb_S256x7168_S256x256_0_6400 (r_19_eq c arg1 harg1 arg2 harg2 x0 x1) (readCov_HS0 c arg1 harg1 arg2 harg2 arg8 x0 x1 6400 inb_S256x7168_S256x256_0_6400)
  · exact code_store _ 6144 inb_S256x7168_S256x256_0_6144 (r_19_eq c arg1 harg1 arg2 harg2 x0 x1) (readCov_HS0 c arg1 harg1 arg2 harg2 arg8 x0 x1 6144 inb_S256x7168_S256x256_0_6144)
  · exact code_store _ 5888 inb_S256x7168_S256x256_0_5888 (r_19_eq c arg1 harg1 arg2 harg2 x0 x1) (readCov_HS0 c arg1 harg1 arg2 harg2 arg8 x0 x1 5888 inb_S256x7168_S256x256_0_5888)
  · exact code_store _ 5632 inb_S256x7168_S256x256_0_5632 (r_19_eq c arg1 harg1 arg2 harg2 x0 x1) (readCov_HS0 c arg1 harg1 arg2 harg2 arg8 x0 x1 5632 inb_S256x7168_S256x256_0_5632)
  · exact code_store _ 5376 inb_S256x7168_S256x256_0_5376 (r_19_eq c arg1 harg1 arg2 harg2 x0 x1) (readCov_HS0 c arg1 harg1 arg2 harg2 arg8 x0 x1 5376 inb_S256x7168_S256x256_0_5376)
  · exact code_store _ 5120 inb_S256x7168_S256x256_0_5120 (r_19_eq c arg1 harg1 arg2 harg2 x0 x1) (readCov_HS0 c arg1 harg1 arg2 harg2 arg8 x0 x1 5120 inb_S256x7168_S256x256_0_5120)
  · exact code_store _ 4864 inb_S256x7168_S256x256_0_4864 (r_19_eq c arg1 harg1 arg2 harg2 x0 x1) (readCov_HS0 c arg1 harg1 arg2 harg2 arg8 x0 x1 4864 inb_S256x7168_S256x256_0_4864)
  · exact code_store _ 4608 inb_S256x7168_S256x256_0_4608 (r_19_eq c arg1 harg1 arg2 harg2 x0 x1) (readCov_HS0 c arg1 harg1 arg2 harg2 arg8 x0 x1 4608 inb_S256x7168_S256x256_0_4608)
  · exact code_store _ 4352 inb_S256x7168_S256x256_0_4352 (r_19_eq c arg1 harg1 arg2 harg2 x0 x1) (readCov_HS0 c arg1 harg1 arg2 harg2 arg8 x0 x1 4352 inb_S256x7168_S256x256_0_4352)
  · exact code_store _ 4096 inb_S256x7168_S256x256_0_4096 (r_19_eq c arg1 harg1 arg2 harg2 x0 x1) (readCov_HS0 c arg1 harg1 arg2 harg2 arg8 x0 x1 4096 inb_S256x7168_S256x256_0_4096)
  · exact code_store _ 3840 inb_S256x7168_S256x256_0_3840 (r_19_eq c arg1 harg1 arg2 harg2 x0 x1) (readCov_HS0 c arg1 harg1 arg2 harg2 arg8 x0 x1 3840 inb_S256x7168_S256x256_0_3840)
  · exact code_store _ 3584 inb_S256x7168_S256x256_0_3584 (r_19_eq c arg1 harg1 arg2 harg2 x0 x1) (readCov_HS0 c arg1 harg1 arg2 harg2 arg8 x0 x1 3584 inb_S256x7168_S256x256_0_3584)
  · exact code_store _ 3328 inb_S256x7168_S256x256_0_3328 (r_19_eq c arg1 harg1 arg2 harg2 x0 x1) (readCov_HS0 c arg1 harg1 arg2 harg2 arg8 x0 x1 3328 inb_S256x7168_S256x256_0_3328)
  · exact code_store _ 3072 inb_S256x7168_S256x256_0_3072 (r_19_eq c arg1 harg1 arg2 harg2 x0 x1) (readCov_HS0 c arg1 harg1 arg2 harg2 arg8 x0 x1 3072 inb_S256x7168_S256x256_0_3072)
  · exact code_store _ 2816 inb_S256x7168_S256x256_0_2816 (r_19_eq c arg1 harg1 arg2 harg2 x0 x1) (readCov_HS0 c arg1 harg1 arg2 harg2 arg8 x0 x1 2816 inb_S256x7168_S256x256_0_2816)
  · exact code_store _ 2560 inb_S256x7168_S256x256_0_2560 (r_19_eq c arg1 harg1 arg2 harg2 x0 x1) (readCov_HS0 c arg1 harg1 arg2 harg2 arg8 x0 x1 2560 inb_S256x7168_S256x256_0_2560)
  · exact code_store _ 2304 inb_S256x7168_S256x256_0_2304 (r_19_eq c arg1 harg1 arg2 harg2 x0 x1) (readCov_HS0 c arg1 harg1 arg2 harg2 arg8 x0 x1 2304 inb_S256x7168_S256x256_0_2304)
  · exact code_store _ 2048 inb_S256x7168_S256x256_0_2048 (r_19_eq c arg1 harg1 arg2 harg2 x0 x1) (readCov_HS0 c arg1 harg1 arg2 harg2 arg8 x0 x1 2048 inb_S256x7168_S256x256_0_2048)
  · exact code_store _ 1792 inb_S256x7168_S256x256_0_1792 (r_19_eq c arg1 harg1 arg2 harg2 x0 x1) (readCov_HS0 c arg1 harg1 arg2 harg2 arg8 x0 x1 1792 inb_S256x7168_S256x256_0_1792)
  · exact code_store _ 1536 inb_S256x7168_S256x256_0_1536 (r_19_eq c arg1 harg1 arg2 harg2 x0 x1) (readCov_HS0 c arg1 harg1 arg2 harg2 arg8 x0 x1 1536 inb_S256x7168_S256x256_0_1536)
  · exact code_store _ 1280 inb_S256x7168_S256x256_0_1280 (r_19_eq c arg1 harg1 arg2 harg2 x0 x1) (readCov_HS0 c arg1 harg1 arg2 harg2 arg8 x0 x1 1280 inb_S256x7168_S256x256_0_1280)
  · exact code_store _ 1024 inb_S256x7168_S256x256_0_1024 (r_19_eq c arg1 harg1 arg2 harg2 x0 x1) (readCov_HS0 c arg1 harg1 arg2 harg2 arg8 x0 x1 1024 inb_S256x7168_S256x256_0_1024)
  · exact code_store _ 768 inb_S256x7168_S256x256_0_768 (r_19_eq c arg1 harg1 arg2 harg2 x0 x1) (readCov_HS0 c arg1 harg1 arg2 harg2 arg8 x0 x1 768 inb_S256x7168_S256x256_0_768)
  · exact code_store _ 512 inb_S256x7168_S256x256_0_512 (r_19_eq c arg1 harg1 arg2 harg2 x0 x1) (readCov_HS0 c arg1 harg1 arg2 harg2 arg8 x0 x1 512 inb_S256x7168_S256x256_0_512)
  · exact code_store _ 256 inb_S256x7168_S256x256_0_256 (r_19_eq c arg1 harg1 arg2 harg2 x0 x1) (readCov_HS0 c arg1 harg1 arg2 harg2 arg8 x0 x1 256 inb_S256x7168_S256x256_0_256)
  · exact code_store _ 0 inb_S256x7168_S256x256_0_0 (step0_eq c arg1 harg1 arg2 harg2 x0 x1) (readCov_HS0 c arg1 harg1 arg2 harg2 arg8 x0 x1 0 inb_S256x7168_S256x256_0_0)

theorem sout0_A_1_eq (hc0 : cond0_0 i) : sout0_A_1 c i arg1 harg1 arg2 harg2 arg3 harg3 arg4 harg4 arg5 harg5 arg6 harg6 arg7 harg7 arg8 harg8 arg9 harg9 arg10 harg10 hc0 x0 x1 x2 x3 = quantA (rotK x0 x1) := by
  unfold sout0_A_1
  rw [View.read_writes_junk_eq_canon]
  exact HS1_eq c arg1 harg1 arg2 harg2 arg8 x0 x1

theorem sout0_A_2_eq (hc0 : cond0_0 i) : sout0_A_2 c i arg1 harg1 arg2 harg2 arg3 harg3 arg4 harg4 arg5 harg5 arg6 harg6 arg7 harg7 arg8 harg8 arg9 harg9 arg10 harg10 hc0 x0 x1 x2 x3 = stepW (rotK x0 x1) := by
  unfold sout0_A_2
  rw [View.read_writes_junk_eq_canon]
  exact HS2_eq c arg1 harg1 arg2 harg2 x0 x1

theorem out0_A_6_eq (hc0 : cond0_0 i) : out0_A_6 c i arg1 harg1 arg2 harg2 arg3 harg3 arg4 harg4 arg5 harg5 arg6 harg6 arg7 harg7 arg8 harg8 arg9 harg9 arg10 harg10 hc0 x0 x1 x2 x3 = stepT (rotK x0 x1) := by
  unfold out0_A_6
  rw [View.read_writes_junk_eq_canon]
  unfold kernelRun0_A
  refine (View.canon_cons_unit_lit _ _ _ (by decide)).trans ?_
  unfold kernelRun0_A.sl.v410
  rw [View.readCov_eq_canon', HS2_eq]
  refine Eq.trans (congrArg k0_pay70 ?_) (stepT_eq _)
  exact View.ld_unit_lit _ _ (by decide)

theorem out0_A_4_eq (hc0 : cond0_0 i) : out0_A_4 c i arg1 harg1 arg2 harg2 arg3 harg3 arg4 harg4 arg5 harg5 arg6 harg6 arg7 harg7 arg8 harg8 arg9 harg9 arg10 harg10 hc0 x0 x1 x2 x3
    = tileY (quantA (rotK x0 x1)) (stepW (rotK x0 x1)) x2 x3 := by
  unfold out0_A_4
  rw [View.read_writes_junk_eq_canon]
  unfold kernelRun0_A
  refine (View.canon_cons_unit_lit _ _ _ (by decide)).trans ?_
  unfold kernelRun0_A.sl.v15 kernelRun0_A.sl.v17 kernelRun0_A.sl.v22
  rw [View.readCov_eq_canon', View.readCov_eq_canon', View.readCov_eq_canon', HS1_eq, HS2_eq, readAt_unread, readAt_unread]
  unfold tileY
  congr 1
  · exact View.ld_unit_lit _ _ (by decide)
  · exact View.ld_unit_lit _ _ (by decide)

theorem out0_B_4_eq (hc0 : ¬cond0_0 i) (xo5 : Vec Ideal S256x7168 .i8) (xo6 : Vec Ideal S1x256 .f32)
    (xs1 : Vec Ideal S256x7168 .bf16) (xs2 : Vec Ideal S256x128 .f32) :
    out0_B_4 c i arg1 harg1 arg2 harg2 arg3 harg3 arg4 harg4 arg5 harg5 arg6 harg6 arg7 harg7 arg8 harg8 arg9 harg9 arg10 harg10 hc0 x0 x1 x2 x3 xo5 xo6 xs1 xs2 = tileY xs1 xs2 x2 x3 := by
  unfold out0_B_4
  rw [View.read_writes_junk_eq_canon]
  unfold kernelRun0_B
  refine (View.canon_cons_unit_lit _ _ _ (by decide)).trans ?_
  rw [readAt_unread, readAt_unread, readAt_unread, readAt_unread, readAt_unread]
  unfold tileY
  congr 1
  · exact View.ld_unit_lit _ _ (by decide)
  · exact View.ld_unit_lit _ _ (by decide)

end
end Cert.KernelIdeal.Gen
-- ==== Proof.Value.Run.lean ====
/- What the kernel program leaves in its three results, as functions of the arguments. -/
module

public import proofs.«01_k».proof.Proof.Body.Launch
public import proofs.«01_k».proof.Proof.Value.Out
public import Idealize.ShloMosaic.Lib.Pipeline.ValueKit.Geometry

@[expose] public section

set_option maxRecDepth 16384

noncomputable section

open Idealize Idealize.ShloMosaic Cert.KernelIdeal Pipeline

namespace Cert.KernelIdeal.Gen

variable (m : (ℓ : Loc nD τ sig) → Buf (Elt Ideal) ℓ)

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, t.val] := (by decide +kernel : ∀ t : Fin grid0.N, _)
theorem index0_3 : ∀ t : Fin cfg0.N, win0_3.index t = ![0, t.val] := (by decide +kernel : ∀ t : Fin grid0.N, _)
theorem index0_4 : ∀ t : Fin cfg0.N, win0_4.index t = ![0, t.val] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)

/-- The activations' block is the whole array. -/
theorem iblk0 (c : Dev nD) (t : Fin cfg0.N) : iblk m c 0 t = (V m c main_v0 : S256x7168.Idx → EReal) := by
  funext y
  blk_simp [iblk, index0_0]
  refine congrArg (V m c main_v0) ?_
  blk_ext [index0_0]

/-- The Hadamard matrix's block is the whole array. -/
theorem iblk1 (c : Dev nD) (t : Fin cfg0.N) : iblk m c 1 t = (V m c main_cst : S256x256.Idx → EReal) := by
  funext y
  blk_simp [iblk, index0_1]
  refine congrArg (V m c main_cst) ?_
  blk_ext [index0_1]

/-- The rotated activations, read off the arrays the kernel is launched on. -/
def rotR (c : Dev nD) : Fin 256 → ℕ → EReal := rotK (V m c main_v0) (V m c main_cst)

/-- What every point leaves: its tile of the product, and the codes, steps and quantised activations of the first. -/
theorem outsAt0_eq (c : Dev nD) : ∀ (n : ℕ) (hn : n < cfg0.N), outsAt0 m c n hn
    = (tileY (quantA (rotR m c)) (stepW (rotR m c)) (iblk m c 2 ⟨n, hn⟩) (iblk m c 3 ⟨n, hn⟩), codeA (rotR m c),
        stepT (rotR m c), quantA (rotR m c), stepW (rotR m c)) := by
  intro n
  induction n with
  | zero =>
    intro hn
    rw [outsAt0_A m c ⟨0, hn⟩ rfl, out0_A_4_eq, out0_A_5_eq, out0_A_6_eq, sout0_A_1_eq, sout0_A_2_eq, iblk0, iblk1]
    rfl
  | succ n ih =>
    intro hn
    have h18 : n + 1 < 18 := by have := N_0; exact lt_of_lt_of_eq hn this
    rw [outsAt0_B m c ⟨n + 1, hn⟩ (by show ¬ (n + 1) % 18 = 0; omega), out0_B_4_eq]
    have e := ih (Nat.lt_of_succ_lt hn)
    have e' : outsAt0 m c ((⟨n + 1, hn⟩ : Fin cfg0.N).val - 1) (Nat.lt_of_le_of_lt (Nat.sub_le _ _) hn) = _ := e
    unfold out0_B_5 out0_B_6 sout0_B_1 sout0_B_2
    rw [e']

/-- The codes' array after the run. -/
theorem final5 (c : Dev nD) : (dats m 0 c).arrAt 5 cfg0.N = (codeA (rotR m c) : S256x7168.Idx → BitVec 8) := by
  refine (dats m 0 c).arrAt_eq_of_covers 5 _ (by decide +kernel) fun t hf y => ?_
  blk_simp
  rw [after0_5, outsAt0_eq]
  refine congrArg (codeA (rotR m c)) ?_
  blk_ext [index0_5]

/-- The scales' array after the run. -/
theorem final6 (c : Dev nD) : (dats m 0 c).arrAt 6 cfg0.N = (stepT (rotR m c) : S1x256.Idx → EReal) := by
  refine (dats m 0 c).arrAt_eq_of_covers 6 _ (by decide +kernel) fun t hf y => ?_
  blk_simp
  rw [after0_6, outsAt0_eq]
  refine congrArg (stepT (rotR m c)) ?_
  blk_ext [index0_6]

/-- The product: column `j` lies in tile `j / 1024`. -/
def yK (c : Dev nD) (i : S256x18432.Idx) : EReal :=
  tileY (quantA (rotR m c)) (stepW (rotR m c))
    (iblk m c 2 ⟨(i 1).val / 1024, lt_of_lt_of_eq (by have := (i 1).isLt; exact Nat.div_lt_of_lt_mul this) N_0.symm⟩)
    (iblk m c 3 ⟨(i 1).val / 1024, lt_of_lt_of_eq (by have := (i 1).isLt; exact Nat.div_lt_of_lt_mul this) N_0.symm⟩)
    (ix2 (i 0) ⟨(i 1).val % 1024, Nat.mod_lt _ (by decide)⟩)

/-- The product at a position of tile `t`. -/
theorem yK_at (c : Dev nD) (t : Fin cfg0.N) (j : S256x18432.Idx) (y : S256x1024.Idx) (h0 : (j 0).val = (y 0).val)
    (h1 : (j 1).val = 1024 * t.val + (y 1).val) :
    yK m c j = tileY (quantA (rotR m c)) (stepW (rotR m c)) (iblk m c 2 t) (iblk m c 3 t) y := by
  unfold yK
  idx_bounds y
  have et : (⟨(j 1).val / 1024, lt_of_lt_of_eq (by have := (j 1).isLt; exact Nat.div_lt_of_lt_mul this) N_0.symm⟩ : Fin cfg0.N) = t :=
    Fin.ext (by show (j 1).val / 1024 = t.val; omega)
  have ey : (ix2 (j 0) ⟨(j 1).val % 1024, Nat.mod_lt _ (by decide)⟩ : S256x1024.Idx) = y := by
    funext a
    match a with
    | ⟨0, _⟩ => exact Fin.ext h0
    | ⟨1, _⟩ => exact Fin.ext (by show (j 1).val % 1024 = (y 1).val; omega)
  rw [et, ey]

/-- The product's array after the run. -/
theorem final4 (c : Dev nD) : (dats m 0 c).arrAt 4 cfg0.N = (yK m c : S256x18432.Idx → EReal) := by
  refine (dats m 0 c).arrAt_eq_of_covers 4 _ (by decide +kernel) fun t hf y => ?_
  blk_simp
  rw [after0_4, outsAt0_eq]
  refine (yK_at m c t _ y ?_ ?_).symm
  · blk_simp [index0_4]
    try omega
  · blk_simp [index0_4]
    try omega

/-- The activations the kernel is launched on: the argument at two axes. -/
theorem V_main_v0 (c : Dev nD) : V m c main_v0
    = shapeCast S256x7168 (m ((c.tc : Thread nD τ).loc main_arg0)) shapeCasts_S1x256x7168_S256x7168 := by
  unfold V V0
  simp only [hostOps0, List.flatten_cons, List.flatten_nil, List.append_nil, List.cons_append, List.nil_append]
  after_results
  rfl

/-- The scale row the kernel is launched on. -/
theorem V_main_v1 (c : Dev nD) : V m c main_v1
    = shapeCast S1x18432 (m ((c.tc : Thread nD τ).loc main_arg2)) shapeCasts_S18432_S1x18432 := by
  unfold V V0
  simp only [hostOps0, List.flatten_cons, List.flatten_nil, List.append_nil, List.cons_append, List.nil_append]
  after_results
  rfl

/-- The Hadamard matrix the kernel is launched on: the program's table. -/
theorem V_main_cst (c : Dev nD) : V m c main_cst
    = fun i => FloatOps.ofBits (F := Ideal) .bf16 (lit0 (S256x256.rowMajor i)) := by
  unfold V V0
  simp only [hostOps0, List.flatten_cons, List.flatten_nil, List.append_nil, List.cons_append, List.nil_append]
  after_results
  rfl

/-- The first result: the product at three axes. -/
theorem W_main_v3 (c : Dev nD) : afterTail₀ cfgs (dats m) 0 (V0 m) [hostOps1] c main_v3
    = shapeCast S1x256x18432 (yK m c : S256x18432.Idx → EReal) shapeCasts_S256x18432_S1x256x18432 := by
  unfold afterTail₀
  simp only [hostOps1, List.flatten_cons, List.flatten_nil, List.append_nil, List.cons_append, List.nil_append]
  after_results
  have e := withArrays_arr spec0 launch0.win.arr_inj c (V0 m c) (fun w => (dats m 0 c).arrAt w cfg0.N) 4
  have e' := e.trans (final4 m c)
  funext i
  exact congrArg (fun f : S256x18432.Idx → EReal => shapeCast S1x256x18432 f shapeCasts_S256x18432_S1x256x18432 i) e'

/-- The second result: the codes at three axes. -/
theorem W_main_v4 (c : Dev nD) : afterTail₀ cfgs (dats m) 0 (V0 m) [hostOps1] c main_v4
    = shapeCast S1x256x7168 (codeA (rotR m c) : S256x7168.Idx → BitVec 8) shapeCasts_S256x7168_S1x256x7168 := by
  unfold afterTail₀
  simp only [hostOps1, List.flatten_cons, List.flatten_nil, List.append_nil, List.cons_append, List.nil_append]
  after_results
  have e := withArrays_arr spec0 launch0.win.arr_inj c (V0 m c) (fun w => (dats m 0 c).arrAt w cfg0.N) 5
  have e' := e.trans (final5 m c)
  funext i
  exact congrArg (fun f : S256x7168.Idx → BitVec 8 => shapeCast S1x256x7168 f shapeCasts_S256x7168_S1x256x7168 i) e'

/-- THE KERNEL PROGRAM: every execution ends with the product, the codes and the steps in its results and its arguments as
    launched. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = shapeCast S1x256x18432 (yK m c : S256x18432.Idx → EReal) shapeCasts_S256x18432_S1x256x18432
      ∧ r.2.mem ((c.tc : Thread nD τ).loc main_v4) = shapeCast S1x256x7168 (codeA (rotR m c) : S256x7168.Idx → BitVec 8) shapeCasts_S256x7168_S1x256x7168
      ∧ r.2.mem ((c.tc : Thread nD τ).loc main_v2_2) = (stepT (rotR m c) : S1x256.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ)
  · exact ((h c).2 main_v3 (mem_restRefs_of main_v3 (by decide) (by decide))).trans (W_main_v3 m c)
  · exact ((h c).2 main_v4 (mem_restRefs_of main_v4 (by decide) (by decide))).trans (W_main_v4 m c)
  · exact ((h c).1 6).trans (final6 m c)
  · exact ⟨(((h c).2 main_arg0 (mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (mem_restRefs_of main_arg2 (by decide) (by decide))).trans (W_main_arg2 m (dats m) c))⟩

end Cert.KernelIdeal.Gen
-- ==== Proof.Value.Digits.lean ====
/- The two nibbles of a packed byte, as the numbers both programs multiply by. -/
module

public import Idealize.ShloMosaic.PureOps.Ideal

@[expose] public section

noncomputable section

namespace Cert.Spec

/-- The low nibble of a byte as a signed number. -/
def lowNib (b : BitVec 8) : ℝ := ((((b.signExtend 32) <<< 28).sshiftRight 28).toInt : ℝ)

/-- The high nibble of a byte as a signed number. -/
def highNib (b : BitVec 8) : ℝ := (((b.signExtend 32).sshiftRight 4).toInt : ℝ)

end Cert.Spec
-- ==== Proof.Value.Nibble.lean ====
/- Four bytes of packed weights as one 32-bit word, and back: the word operations that leave a nibble in the high half
   of every byte, and the number such a byte is. -/
module

public import proofs.«01_k».proof.Proof.Gen.KernelIdeal
public import proofs.«01_k».proof.Proof.Value.Digits
public import Idealize.ShloMosaic.Lib.Pointwise
public import Idealize.ShloMosaic.Lib.BitcastFour

@[expose] public section

set_option maxRecDepth 16384

noncomputable section

open Idealize Idealize.ShloMosaic Cert.KernelIdeal

namespace Cert.KernelIdeal.Gen

/-- A word read as bytes: bit `q` of byte row `p` is bit `8 (p % 4) + q` of word row `p / 4`. -/
theorem bitcast_32_8_getLsbD {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4)
    (q : Nat) (hq : q < 8) :
    (bitcast ⟨2, ![R, n]⟩ 8 x h (ix2 p l)).getLsbD q = (x (ix2 a l)).getLsbD (8 * (p.val % 4) + q) := by
  rw [bitcast_getLsbD x h _ q hq (by decide)]
  have hrow : (⟨2, ![R, n]⟩ : Shape).row (ix2 p l) = p.val := rfl
  have e : ((⟨2, ![R, n]⟩ : Shape).row (ix2 p l) * 8 + q) % 32 = 8 * (p.val % 4) + q := by rw [hrow]; omega
  rw [e]
  congr 2
  funext c
  match c with
  | ⟨0, _⟩ =>
    refine Fin.ext ((h.srcIdx_row _ _ _ ⟨0, Nat.zero_lt_two⟩ rfl).trans ?_)
    rw [hrow]
    show _ = a.val
    omega
  | ⟨1, _⟩ => exact Fin.ext (h.srcIdx_other _ _ _ ⟨1, Nat.one_lt_two⟩ (by show ¬ 1 + 2 = 2; omega))

/-- Bytes read as a word: bit `q` of word row `a` is bit `q % 8` of byte row `4 a + q / 8`. -/
theorem bitcast_8_32_ix2 {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) :=
  bitcast_8_32_getLsbD_ix2 x h a l q hq p hp

/-- Bit `i` of the mask with the high half of every byte set. -/
theorem mask32 (i : Nat) (hi : i < 32) : (4042322160#32).getLsbD i = decide (4 ≤ i % 8) := by
  interval_cases i <;> rfl

/-- Bit `i` of the same mask of one byte. -/
theorem mask8 (i : Nat) (hi : i < 8) : (240#8).getLsbD i = decide (4 ≤ i) := by
  interval_cases i <;> rfl

/-- The words masked, as bytes: every byte masked. -/
theorem high_byte (w : S3584x1024.Idx → BitVec 8) (k : Fin 3584) (l : Fin 1024) :
    bitcast S3584x1024 8 (andi (bitcast S896x1024 32 w bitcasts_S3584x1024_w8_S896x1024_w32)
      (broadcast S896x1024 (4042322160#32 : BitVec 32))) bitcasts_S896x1024_w32_S3584x1024_w8 (ix2 k l)
      = w (ix2 k l) &&& 240#8 := by
  apply BitVec.eq_of_getLsbD_eq
  intro i hi
  have ha : k.val / 4 < 896 := by have := k.isLt; omega
  rw [bitcast_32_8_getLsbD _ _ k l ⟨k.val / 4, ha⟩ rfl i hi]
  show ((bitcast S896x1024 32 w bitcasts_S3584x1024_w8_S896x1024_w32 (ix2 ⟨k.val / 4, ha⟩ l)) &&& 4042322160#32).getLsbD _ = _
  rw [BitVec.getLsbD_and, BitVec.getLsbD_and, mask32 _ (by omega), mask8 i hi,
    bitcast_8_32_ix2 w _ ⟨k.val / 4, ha⟩ l (8 * (k.val % 4) + i) (by omega) k (by show k.val = _; simp only; omega)]
  rw [show (8 * (k.val % 4) + i) % 8 = i by omega]

/-- The words shifted left by four and masked, as bytes: every byte shifted left by four. -/
theorem low_byte (w : S3584x1024.Idx → BitVec 8) (k : Fin 3584) (l : Fin 1024) :
    bitcast S3584x1024 8 (andi (shli (bitcast S896x1024 32 w bitcasts_S3584x1024_w8_S896x1024_w32)
      (broadcast S896x1024 (4#32 : BitVec 32))) (broadcast S896x1024 (4042322160#32 : BitVec 32)))
      bitcasts_S896x1024_w32_S3584x1024_w8 (ix2 k l)
      = w (ix2 k l) <<< 4 := by
  apply BitVec.eq_of_getLsbD_eq
  intro i hi
  have ha : k.val / 4 < 896 := by have := k.isLt; omega
  rw [bitcast_32_8_getLsbD _ _ k l ⟨k.val / 4, ha⟩ rfl i hi]
  show (((bitcast S896x1024 32 w bitcasts_S3584x1024_w8_S896x1024_w32 (ix2 ⟨k.val / 4, ha⟩ l)) <<< 4) &&& 4042322160#32).getLsbD _ = _
  rw [BitVec.getLsbD_and, mask32 _ (by omega), BitVec.getLsbD_shiftLeft, BitVec.getLsbD_shiftLeft]
  rw [show (8 * (k.val % 4) + i) % 8 = i by omega]
  by_cases h4 : 4 ≤ i
  · rw [bitcast_8_32_ix2 w _ ⟨k.val / 4, ha⟩ l (8 * (k.val % 4) + i - 4) (by omega) k (by show k.val = _; simp only; omega)]
    rw [show (8 * (k.val % 4) + i - 4) % 8 = i - 4 by omega]
    simp [h4, hi, show ¬ i < 4 by omega, show 8 * (k.val % 4) + i < 32 by omega, show ¬ 8 * (k.val % 4) + i < 4 by omega]
  · simp [h4, show i < 4 by omega]

/-- A byte shifted left by four is sixteen times its low nibble. -/
theorem low_toInt : ∀ b : BitVec 8, (b <<< 4).toInt = 16 * (((b.signExtend 32) <<< 28).sshiftRight 28).toInt := by
  decide +kernel

/-- A byte with its low nibble cleared is sixteen times its high nibble. -/
theorem high_toInt : ∀ b : BitVec 8, (b &&& 240#8).toInt = 16 * ((b.signExtend 32).sshiftRight 4).toInt := by
  decide +kernel

theorem sitofp_low (b : BitVec 8) :
    (FloatOps.sitofp (F := Ideal) .bf16 (b <<< 4) : EReal) = ((16 * Spec.lowNib b : ℝ) : EReal) := by
  show (((b <<< 4).toInt : ℝ) : EReal) = _
  rw [low_toInt, Spec.lowNib]
  push_cast
  rfl

theorem sitofp_high (b : BitVec 8) :
    (FloatOps.sitofp (F := Ideal) .bf16 (b &&& 240#8) : EReal) = ((16 * Spec.highNib b : ℝ) : EReal) := by
  show (((b &&& 240#8).toInt : ℝ) : EReal) = _
  rw [high_toInt, Spec.highNib]
  push_cast
  rfl

/-- The sixteenth of two sums whose terms all carry a factor sixteen. -/
theorem sixteenth_sum {n : Nat} (q r a b : Fin n → ℝ) :
    ((∑ k, (q k : EReal) * ((16 * a k : ℝ) : EReal)) + ∑ k, (r k : EReal) * ((16 * b k : ℝ) : EReal)) * ((1 / 16 : ℝ) : EReal)
      = (∑ k, (q k : EReal) * (a k : EReal)) + ∑ k, (r k : EReal) * (b k : EReal) := by
  have cs : ∀ f : Fin n → ℝ, (∑ k, (f k : EReal)) = ((∑ k, f k : ℝ) : EReal) := fun f => by
    induction (Finset.univ : Finset (Fin n)) using Finset.induction_on with
    | empty => simp
    | insert x s hx ih => rw [Finset.sum_insert hx, Finset.sum_insert hx, ih, EReal.coe_add]
  simp only [← EReal.coe_mul]
  rw [cs, cs, cs, cs, ← EReal.coe_add, ← EReal.coe_add, ← EReal.coe_mul, EReal.coe_eq_coe_iff, add_mul, Finset.sum_mul,
    Finset.sum_mul]
  congr 1 <;> refine Finset.sum_congr rfl fun k _ => ?_ <;> ring

end Cert.KernelIdeal.Gen
-- ==== Proof.Value.Table.Spec.lean ====
/- What the kernel's Hadamard matrix holds at a row and a column, and the check that its table does, sixteen rows at a
   time. -/
module

public import proofs.«01_k».proof.KernelIdeal

@[expose] public section

set_option maxRecDepth 65536

noncomputable section

open Idealize Idealize.ShloMosaic Cert.KernelIdeal

namespace Cert.Spec

/-- How many of their seven binary digits `i` and `j` share: the sign of the Hadamard matrix at row `i` and column `j` is
    negative where this is odd. -/
def shared (i j : ℕ) : ℕ :=
  (i % 2) * (j % 2) + (i / 2 % 2) * (j / 2 % 2) + (i / 4 % 2) * (j / 4 % 2) + (i / 8 % 2) * (j / 8 % 2)
    + (i / 16 % 2) * (j / 16 % 2) + (i / 32 % 2) * (j / 32 % 2) + (i / 64 % 2) * (j / 64 % 2)

/-- The word of the kernel's table at row `k` and column `q`: a sign bit, and the word of one where row and column lie in
    the same block of 128. -/
def word (k q : ℕ) : ℕ := 0x8000 * (shared k q % 2) + 0x3F80 * (1 - (k / 128 + q / 128) % 2)

/-- Whether `f` holds at every number below `n`. -/
def upTo (f : ℕ → Bool) (n : ℕ) : Bool := Nat.rec true (fun k r => f k && r) n

theorem upTo_spec (f : ℕ → Bool) (n : ℕ) (h : upTo f n = true) : ∀ k < n, f k = true := by
  induction n with
  | zero => intro k hk; exact absurd hk (Nat.not_lt_zero k)
  | succ n ih =>
    intro k hk
    have h' : f n = true ∧ upTo f n = true := Bool.and_eq_true_iff.mp h
    rcases Nat.lt_succ_iff_lt_or_eq.mp hk with hk | rfl
    · exact ih h'.2 k hk
    · exact h'.1

/-- Rows `16 a` to `16 a + 15` of the table hold their words. -/
def rowsOk (a : ℕ) : Bool :=
  upTo (fun k => upTo (fun q => Nat.beq (lit0t (256 * (16 * a + k) + q)).toNat (word (16 * a + k) q)) 256) 16

end Cert.Spec
-- ==== Proof.Value.Table.RowsA.lean ====
/- The Hadamard table's words, rows 0 to 63: read by the kernel of the prover. -/
module

public import proofs.«01_k».proof.Proof.Value.Table.Spec

@[expose] public section

set_option maxRecDepth 65536

namespace Cert.Spec

theorem rows_0 : rowsOk 0 = true := by decide +kernel
theorem rows_1 : rowsOk 1 = true := by decide +kernel
theorem rows_2 : rowsOk 2 = true := by decide +kernel
theorem rows_3 : rowsOk 3 = true := by decide +kernel

end Cert.Spec
-- ==== Proof.Value.Table.RowsB.lean ====
/- The Hadamard table's words, rows 64 to 127: read by the kernel of the prover. -/
module

public import proofs.«01_k».proof.Proof.Value.Table.Spec

@[expose] public section

set_option maxRecDepth 65536

namespace Cert.Spec

theorem rows_4 : rowsOk 4 = true := by decide +kernel
theorem rows_5 : rowsOk 5 = true := by decide +kernel
theorem rows_6 : rowsOk 6 = true := by decide +kernel
theorem rows_7 : rowsOk 7 = true := by decide +kernel

end Cert.Spec
-- ==== Proof.Value.Table.RowsC.lean ====
/- The Hadamard table's words, rows 128 to 191: read by the kernel of the prover. -/
module

public import proofs.«01_k».proof.Proof.Value.Table.Spec

@[expose] public section

set_option maxRecDepth 65536

namespace Cert.Spec

theorem rows_8 : rowsOk 8 = true := by decide +kernel
theorem rows_9 : rowsOk 9 = true := by decide +kernel
theorem rows_10 : rowsOk 10 = true := by decide +kernel
theorem rows_11 : rowsOk 11 = true := by decide +kernel

end Cert.Spec
-- ==== Proof.Value.Table.RowsD.lean ====
/- The Hadamard table's words, rows 192 to 255: read by the kernel of the prover. -/
module

public import proofs.«01_k».proof.Proof.Value.Table.Spec

@[expose] public section

set_option maxRecDepth 65536

namespace Cert.Spec

theorem rows_12 : rowsOk 12 = true := by decide +kernel
theorem rows_13 : rowsOk 13 = true := by decide +kernel
theorem rows_14 : rowsOk 14 = true := by decide +kernel
theorem rows_15 : rowsOk 15 = true := by decide +kernel

end Cert.Spec
-- ==== Proof.Value.Table.lean ====
/- The kernel's Hadamard matrix, entry by entry: two blocks of signs on the diagonal, signed zeros beside them. -/
module

public import proofs.«01_k».proof.Proof.Value.Table.RowsA
public import proofs.«01_k».proof.Proof.Value.Table.RowsB
public import proofs.«01_k».proof.Proof.Value.Table.RowsC
public import proofs.«01_k».proof.Proof.Value.Table.RowsD
public import Mathlib.Tactic.IntervalCases

@[expose] public section

open Idealize Idealize.ShloMosaic Cert.KernelIdeal

namespace Cert.Spec

theorem rows_ok (a : ℕ) (ha : a < 16) : rowsOk a = true := by
  interval_cases a
  exacts [rows_0, rows_1, rows_2, rows_3, rows_4, rows_5, rows_6, rows_7, rows_8, rows_9, rows_10, rows_11, rows_12,
    rows_13, rows_14, rows_15]

/-- Every entry of the table is its word. -/
theorem table_eq (k q : ℕ) (hk : k < 256) (hq : q < 256) : (lit0t (256 * k + q)).toNat = word k q := by
  have h := upTo_spec _ _ (upTo_spec _ _ (rows_ok (k / 16) (by omega)) (k % 16) (Nat.mod_lt _ (by decide))) q hq
  have e : 16 * (k / 16) + k % 16 = k := Nat.div_add_mod k 16
  rw [e] at h
  exact Nat.eq_of_beq_eq_true h

end Cert.Spec
-- ==== Proof.Value.Code.lean ====
/- The clipped number is an integer from -127 to 127, so the code holds it exactly, at eight bits or at thirty-two. -/
module

public import proofs.«01_k».proof.Proof.Value.Spec

@[expose] public section

noncomputable section

open Idealize Idealize.ShloMosaic

namespace Cert.Spec

/-- A clipped rounded quotient is an integer from -127 to 127, whatever was divided. -/
theorem quant_int (s r : EReal) : ∃ n : ℤ, -127 ≤ n ∧ n ≤ 127 ∧ quant s r = ((n : ℝ) : EReal) := by
  have ht : top = (((127 : ℤ) : ℝ) : EReal) := by rw [top_eq]; norm_num
  have hb : bot = (((-127 : ℤ) : ℝ) : EReal) := by rw [bot_eq]; norm_num
  unfold quant
  rw [ht, hb]
  induction Ideal.div r s with
  | bot =>
    refine ⟨-127, le_refl _, by norm_num, ?_⟩
    show min _ (max _ (⊥ : EReal)) = _
    rw [max_bot_right, min_eq_right (by rw [EReal.coe_le_coe_iff]; norm_num)]
  | top =>
    refine ⟨127, by norm_num, le_refl _, ?_⟩
    show min _ (max _ (⊤ : EReal)) = _
    rw [max_top_right, min_top_right]
  | coe x =>
    refine ⟨min 127 (max (-127) (Ideal.roundHalfEven x)), by omega, by omega, ?_⟩
    show min _ (max _ (((Ideal.roundHalfEven x : ℤ) : ℝ) : EReal)) = _
    rw [Int.cast_min, Int.cast_max, EReal.coe_strictMono.monotone.map_min, EReal.coe_strictMono.monotone.map_max]

/-- The conversion of an integer in range is its word. -/
theorem fptosi_int (n : ℤ) (w : ℕ) (hl : (-(2 ^ (w - 1) : ℕ) : ℤ) ≤ n) (hh : n ≤ ((2 ^ (w - 1) : ℕ) : ℤ) - 1) :
    Ideal.fptosi w ((n : ℝ) : EReal) = BitVec.ofInt w n := by
  show BitVec.ofInt w (max _ (min _ (if (0 : ℝ) ≤ (n : ℝ) then ⌊(n : ℝ)⌋ else ⌈(n : ℝ)⌉))) = _
  rw [Int.floor_intCast, Int.ceil_intCast, ite_self, min_eq_right hh, max_eq_right hl]

/-- Every integer in range, at thirty-two bits and cut to eight, is its word at eight. -/
theorem cut_int (n : ℤ) : (BitVec.ofInt 32 n).setWidth 8 = BitVec.ofInt 8 n := by
  apply BitVec.eq_of_toNat_eq
  simp only [BitVec.toNat_setWidth, BitVec.toNat_ofInt]
  omega

/-- A clipped number converted at thirty-two bits and cut to eight is it converted at eight. -/
theorem code_cut (s r : EReal) : (Ideal.fptosi 32 (quant s r)).setWidth 8 = Ideal.fptosi 8 (quant s r) := by
  obtain ⟨n, h1, h2, e⟩ := quant_int s r
  rw [e, fptosi_int n 32 (by norm_num; omega) (by norm_num; omega), fptosi_int n 8 (by norm_num; omega) (by norm_num; omega),
    cut_int]

/-- The code, widened and read back, is the clipped number. -/
theorem code_back (s r : EReal) :
    ((((Ideal.fptosi 8 (quant s r)).signExtend 32).toInt : ℝ) : EReal) = quant s r := by
  obtain ⟨n, h1, h2, e⟩ := quant_int s r
  rw [e, fptosi_int n 8 (by norm_num; omega) (by norm_num; omega), BitVec.toInt_signExtend_of_le (by norm_num),
    BitVec.toInt_ofInt_eq_self (by norm_num) (by norm_num; omega) (by norm_num; omega)]

end Cert.Spec
-- ==== Proof.Value.Reference.lean ====
/- The reference, stage by stage: the Hadamard matrix, the rotation, the scales, the codes and the product, each read at
   an index. -/
module

public import proofs.«01_k».proof.Proof.Gen.ReferenceIdeal.Run
public import proofs.«01_k».proof.Proof.Value.Code
public import proofs.«01_k».proof.Proof.Value.Digits
public import proofs.«01_k».proof.Proof.Value.Table.Spec
public import Idealize.ShloMosaic.Lib.Pointwise
public import Idealize.ShloMosaic.Lib.IdealHost

@[expose] public section

set_option maxRecDepth 16384

noncomputable section

open Idealize Idealize.ShloMosaic Cert.ReferenceIdeal Cert.ReferenceIdeal.Gen

namespace Cert.ReferenceIdeal.Value

/-- The 2 by 2 Hadamard matrix. -/
def had1 : FVec Ideal S2x2 .f32 := fun i => FloatOps.ofBits (F := Ideal) .f32 (lit0 (S2x2.rowMajor i))

/-- The Hadamard matrix of 4 rows. -/
def had2 : FVec Ideal S4x4 .f32 :=
  shapeCast _ (mulf (broadcastInDim S2x2x2x2 ![0, 1, 2, 3] bcast_S2x1x2x1_S2x2x2x2_0_1_2_3
    (broadcastInDim S2x1x2x1 ![0, 2] bcast_S2x2_S2x1x2x1_0_2 had1))
    (broadcastInDim S2x2x2x2 ![0, 1, 2, 3] bcast_S1x2x1x2_S2x2x2x2_0_1_2_3
    (broadcastInDim S1x2x1x2 ![1, 3] bcast_S2x2_S1x2x1x2_1_3 had1))) shapeCasts_S2x2x2x2_S4x4

/-- The Hadamard matrix of 8 rows. -/
def had3 : FVec Ideal S8x8 .f32 :=
  shapeCast _ (mulf (broadcastInDim S4x2x4x2 ![0, 1, 2, 3] bcast_S4x1x4x1_S4x2x4x2_0_1_2_3
    (broadcastInDim S4x1x4x1 ![0, 2] bcast_S4x4_S4x1x4x1_0_2 had2))
    (broadcastInDim S4x2x4x2 ![0, 1, 2, 3] bcast_S1x2x1x2_S4x2x4x2_0_1_2_3
    (broadcastInDim S1x2x1x2 ![1, 3] bcast_S2x2_S1x2x1x2_1_3 had1))) shapeCasts_S4x2x4x2_S8x8

/-- The Hadamard matrix of 16 rows. -/
def had4 : FVec Ideal S16x16 .f32 :=
  shapeCast _ (mulf (broadcastInDim S8x2x8x2 ![0, 1, 2, 3] bcast_S8x1x8x1_S8x2x8x2_0_1_2_3
    (broadcastInDim S8x1x8x1 ![0, 2] bcast_S8x8_S8x1x8x1_0_2 had3))
    (broadcastInDim S8x2x8x2 ![0, 1, 2, 3] bcast_S1x2x1x2_S8x2x8x2_0_1_2_3
    (broadcastInDim S1x2x1x2 ![1, 3] bcast_S2x2_S1x2x1x2_1_3 had1))) shapeCasts_S8x2x8x2_S16x16

/-- The Hadamard matrix of 32 rows. -/
def had5 : FVec Ideal S32x32 .f32 :=
  shapeCast _ (mulf (broadcastInDim S16x2x16x2 ![0, 1, 2, 3] bcast_S16x1x16x1_S16x2x16x2_0_1_2_3
    (broadcastInDim S16x1x16x1 ![0, 2] bcast_S16x16_S16x1x16x1_0_2 had4))
    (broadcastInDim S16x2x16x2 ![0, 1, 2, 3] bcast_S1x2x1x2_S16x2x16x2_0_1_2_3
    (broadcastInDim S1x2x1x2 ![1, 3] bcast_S2x2_S1x2x1x2_1_3 had1))) shapeCasts_S16x2x16x2_S32x32

/-- The Hadamard matrix of 64 rows. -/
def had6 : FVec Ideal S64x64 .f32 :=
  shapeCast _ (mulf (broadcastInDim S32x2x32x2 ![0, 1, 2, 3] bcast_S32x1x32x1_S32x2x32x2_0_1_2_3
    (broadcastInDim S32x1x32x1 ![0, 2] bcast_S32x32_S32x1x32x1_0_2 had5))
    (broadcastInDim S32x2x32x2 ![0, 1, 2, 3] bcast_S1x2x1x2_S32x2x32x2_0_1_2_3
    (broadcastInDim S1x2x1x2 ![1, 3] bcast_S2x2_S1x2x1x2_1_3 had1))) shapeCasts_S32x2x32x2_S64x64

/-- The Hadamard matrix of 128 rows. -/
def had7 : FVec Ideal S128x128 .f32 :=
  shapeCast _ (mulf (broadcastInDim S64x2x64x2 ![0, 1, 2, 3] bcast_S64x1x64x1_S64x2x64x2_0_1_2_3
    (broadcastInDim S64x1x64x1 ![0, 2] bcast_S64x64_S64x1x64x1_0_2 had6))
    (broadcastInDim S64x2x64x2 ![0, 1, 2, 3] bcast_S1x2x1x2_S64x2x64x2_0_1_2_3
    (broadcastInDim S1x2x1x2 ![1, 3] bcast_S2x2_S1x2x1x2_1_3 had1))) shapeCasts_S64x2x64x2_S128x128

/-- The normalised Hadamard matrix. -/
def hadN : FVec Ideal S128x128 .f32 := mulf had7 (broadcastInDim S128x128 ![] bcast_S_S128x128 (constant S_ .f32 0x3DB504F3#32))

/-- The rotated activations. -/
def rotated (x : FVec Ideal S1x256x7168 .bf16) : FVec Ideal S1x256x7168 .f32 :=
  shapeCast _ (Host.dotGeneral dot_S1x256x56x128_S128x128_S1x256x56x128_3_0_012_1_n_n (some .fp32)
    (shapeCast _ (extf .f32 x bitsLt_bf16_f32) shapeCasts_S1x256x7168_S1x256x56x128) hadN) shapeCasts_S1x256x56x128_S1x256x7168

/-- The largest magnitude of each row. -/
def peak (r : FVec Ideal S1x256x7168 .f32) : FVec Ideal S1x256 .f32 :=
  Host.reduce FloatOps.maximumf (Host.absf r) (constant S_ .f32 0xFF800000#32) reducesTo_S1x256x7168_S1x256_d2 h_S_

/-- The step of each row. -/
def scale (p : FVec Ideal S1x256 .f32) : FVec Ideal S1x256 .f32 :=
  select (cmpf .oeq p (broadcastInDim S1x256 ![] bcast_S_S1x256 (constant S_ .f32 0x00000000#32)))
    (broadcastInDim S1x256 ![] bcast_S_S1x256 (constant S_ .f32 0x3F800000#32))
    (Host.divf p (broadcastInDim S1x256 ![] bcast_S_S1x256 (constant S_ .f32 0x42FE0000#32)))

/-- The activations in steps, rounded and clipped. -/
def clipped (r : FVec Ideal S1x256x7168 .f32) (s : FVec Ideal S1x256 .f32) : FVec Ideal S1x256x7168 .f32 :=
  minimumf (broadcastInDim S1x256x7168 ![] bcast_S_S1x256x7168 (id (constant S_ .f32 0x42FE0000#32)))
    (maximumf (broadcastInDim S1x256x7168 ![] bcast_S_S1x256x7168 (id (constant S_ .f32 0xC2FE0000#32)))
      (Host.roundeven (Host.divf r (broadcastInDim S1x256x7168 ![0, 1, 2] bcast_S1x256x1_S1x256x7168_0_1_2
        (broadcastInDim S1x256x1 ![0, 1] bcast_S1x256_S1x256x1_0_1 s)))))

/-- The codes. -/
def codes (q : FVec Ideal S1x256x7168 .f32) : IVec S1x256x7168 8 := trunci 8 (fptosi 32 q) natLt_8_32

/-- The product of the codes and the unpacked weights, scaled. -/
def product (b : IVec S1x256x7168 8) (s : FVec Ideal S1x256 .f32) (w : IVec S3584x18432 8)
    (ws : FVec Ideal S18432 .f32) : FVec Ideal S1x256x18432 .bf16 :=
  truncf .bf16 (mulf (mulf (addf
    (Host.dotGeneral dot_S1x256x3584_S3584x18432_S1x256x18432_2_0_01_1_n_n none
      (extractStridedSlice S1x256x3584 ![0, 0, 0] (sitofp .bf16 (extsi 32 b natLt_8_32)) slices_S1x256x7168_S1x256x3584_0_0_0)
      (sitofp .bf16 (Host.shrsi (Host.shli (extsi 32 (id w) natLt_8_32) (broadcastInDim S3584x18432 ![] bcast_S_S3584x18432 (constantI S_ 32 28#32)))
        (broadcastInDim S3584x18432 ![] bcast_S_S3584x18432 (constantI S_ 32 28#32)))))
    (Host.dotGeneral dot_S1x256x3584_S3584x18432_S1x256x18432_2_0_01_1_n_n none
      (extractStridedSlice S1x256x3584 ![0, 0, 3584] (sitofp .bf16 (extsi 32 b natLt_8_32)) slices_S1x256x7168_S1x256x3584_0_0_3584)
      (sitofp .bf16 (Host.shrsi (extsi 32 (id w) natLt_8_32) (broadcastInDim S3584x18432 ![] bcast_S_S3584x18432 (constantI S_ 32 4#32))))))
    (broadcastInDim S1x256x18432 ![0, 1, 2] bcast_S1x256x1_S1x256x18432_0_1_2 (broadcastInDim S1x256x1 ![0, 1] bcast_S1x256_S1x256x1_0_1 s)))
    (broadcastInDim S1x256x18432 ![0, 1, 2] bcast_S1x1x18432_S1x256x18432_0_1_2 (broadcastInDim S1x1x18432 ![2] bcast_S18432_S1x1x18432_2 ws)))
    bitsLt_bf16_f32

section
variable (m : (ℓ : Loc nD τ sig) → Buf (Elt Ideal) ℓ) (c : Dev nD)

theorem out2_eq : res_main_v18 m c = scale (peak (rotated (m ((c.tc : Thread nD τ).loc main_arg0)))) := rfl

theorem out1_eq : res_main_v25 m c = codes (clipped (rotated (m ((c.tc : Thread nD τ).loc main_arg0)))
    (scale (peak (rotated (m ((c.tc : Thread nD τ).loc main_arg0)))))) := rfl

theorem out0_eq : res_main_v49 m c = product (codes (clipped (rotated (m ((c.tc : Thread nD τ).loc main_arg0)))
      (scale (peak (rotated (m ((c.tc : Thread nD τ).loc main_arg0)))))))
    (scale (peak (rotated (m ((c.tc : Thread nD τ).loc main_arg0))))) (m ((c.tc : Thread nD τ).loc main_arg1))
    (m ((c.tc : Thread nD τ).loc main_arg2)) := rfl
end

/-! ## At an index -/

/-- A sign: one at an even number, its negative at an odd one. -/
def sgn (n : ℕ) : EReal := (((-1 : ℝ) ^ n : ℝ) : EReal)

theorem sgn_add (a b : ℕ) : sgn a * sgn b = sgn (a + b) := by
  unfold sgn
  rw [← EReal.coe_mul, ← pow_add]

/-- The exponent of the sign the tower has at row `i` and column `j` of level `n`. -/
def tower : ℕ → ℕ → ℕ → ℕ
  | 0, i, j => i * j
  | n + 1, i, j => tower n (i / 2) (j / 2) + i % 2 * (j % 2)

theorem had1_at (j : S2x2.Idx) : had1 j = sgn (tower 0 (j 0).val (j 1).val) := by
  idx_vars j
  unfold had1 tower sgn
  fin_cases j0 <;> fin_cases j1
  · show Ideal.ofBits .f32 (0x3F800000#32) = (((-1 : ℝ) ^ (0 * 0) : ℝ) : EReal)
    rw [Ideal.ofBits_one_f32]; norm_num
  · show Ideal.ofBits .f32 (0x3F800000#32) = (((-1 : ℝ) ^ (0 * 1) : ℝ) : EReal)
    rw [Ideal.ofBits_one_f32]; norm_num
  · show Ideal.ofBits .f32 (0x3F800000#32) = (((-1 : ℝ) ^ (1 * 0) : ℝ) : EReal)
    rw [Ideal.ofBits_one_f32]; norm_num
  · show Ideal.ofBits .f32 (0xBF800000#32) = (((-1 : ℝ) ^ (1 * 1) : ℝ) : EReal)
    simp [Ideal.ofBits, Ideal.ieee, -EReal.coe_mul, -EReal.coe_neg]; norm_num

theorem had2_at (j : S4x4.Idx) : had2 j = sgn (tower 1 (j 0).val (j 1).val) := by
  pointwise [had2]
  rw [had1_at, had1_at, sgn_add]
  rfl

theorem had3_at (j : S8x8.Idx) : had3 j = sgn (tower 2 (j 0).val (j 1).val) := by
  pointwise [had3]
  rw [had2_at, had1_at, sgn_add]
  rfl

theorem had4_at (j : S16x16.Idx) : had4 j = sgn (tower 3 (j 0).val (j 1).val) := by
  pointwise [had4]
  rw [had3_at, had1_at, sgn_add]
  rfl

theorem had5_at (j : S32x32.Idx) : had5 j = sgn (tower 4 (j 0).val (j 1).val) := by
  pointwise [had5]
  rw [had4_at, had1_at, sgn_add]
  rfl

theorem had6_at (j : S64x64.Idx) : had6 j = sgn (tower 5 (j 0).val (j 1).val) := by
  pointwise [had6]
  rw [had5_at, had1_at, sgn_add]
  rfl

theorem had7_at (j : S128x128.Idx) : had7 j = sgn (tower 6 (j 0).val (j 1).val) := by
  pointwise [had7]
  rw [had6_at, had1_at, sgn_add]
  rfl

/-- Seven levels: the sign is negative where row and column share an odd number of binary digits. -/
theorem tower_shared (i j : ℕ) (hi : i < 128) (hj : j < 128) : tower 6 i j = Spec.shared i j := by
  unfold Spec.shared
  rw [show i / 64 % 2 = i / 64 by omega, show j / 64 % 2 = j / 64 by omega]
  simp only [tower, Nat.div_div_eq_div_mul, Nat.reduceMul]
  ring

theorem hadN_at (k q : Fin 128) : hadN (ix2 k q) = sgn (Spec.shared k.val q.val) * Spec.norm := by
  have h : hadN (ix2 k q) = had7 (ix2 k q) * Spec.norm := by
    pointwise [hadN, Spec.norm]
  rw [h, had7_at]
  show sgn (tower 6 k.val q.val) * _ = _
  rw [tower_shared k.val q.val k.isLt q.isLt]

/-- The reference's rotation at row `p` and column `q`. -/
theorem rotated_at (x : FVec Ideal S1x256x7168 .bf16) (p : Fin 256) (q : Fin 7168) :
    rotated x (ix3 0 p q) = ∑ k : Fin 128, x (ix3 0 p ⟨q.val / 128 * 128 + k.val, by omega⟩)
      * (sgn (Spec.shared k.val (q.val % 128)) * Spec.norm) := by
  pointwise [rotated]
  refine Finset.sum_congr rfl fun k _ => ?_
  rw [hadN_at]

theorem peak_at (r : FVec Ideal S1x256x7168 .f32) (p : Fin 256) (R : ℕ → EReal) (hR : ∀ q : Fin 7168, r (ix3 0 p q) = R q.val) :
    peak r (ix2 0 p) = Spec.rowMax R := by
  pointwise [peak]
  unfold Spec.rowMax Spec.low
  refine Finset.fold_congr fun q _ => ?_
  rw [hR q]
  rfl

theorem scale_at (x : FVec Ideal S1x256 .f32) (j : S1x256.Idx) : scale x j = Spec.step (x j) := by
  pointwise [scale]
  rfl

theorem clipped_at (r : FVec Ideal S1x256x7168 .f32) (s : FVec Ideal S1x256 .f32) (p : Fin 256) (q : Fin 7168) :
    clipped r s (ix3 0 p q) = Spec.quant (s (ix2 0 p)) (r (ix3 0 p q)) := by
  pointwise [clipped]
  rfl

theorem codes_at (q : FVec Ideal S1x256x7168 .f32) (j : S1x256x7168.Idx) (s r : EReal) (h : q j = Spec.quant s r) :
    codes q j = Ideal.fptosi 8 (Spec.quant s r) := by
  show (Ideal.fptosi 32 (q j)).setWidth 8 = _
  rw [h, Spec.code_cut]

/-- The reference's product at row `p` and column `n`. -/
theorem product_at (b : IVec S1x256x7168 8) (s : FVec Ideal S1x256 .f32) (w : IVec S3584x18432 8) (ws : FVec Ideal S18432 .f32)
    (p : Fin 256) (n : Fin 18432) (Q : ℕ → EReal)
    (hQ : ∀ k : Fin 7168, ((((b (ix3 0 p k)).signExtend 32).toInt : ℝ) : EReal) = Q k.val) :
    product b s w ws (ix3 0 p n)
      = ((∑ k : Fin 3584, Q k.val * ((Spec.lowNib (w (ix2 k n)) : ℝ) : EReal))
          + ∑ k : Fin 3584, Q (3584 + k.val) * ((Spec.highNib (w (ix2 k n)) : ℝ) : EReal)) * s (ix2 0 p) * ws (ix1 n) := by
  pointwise [product]
  refine congrArg (fun z => z * s (ix2 0 p) * ws (ix1 n)) ?_
  refine congrArg₂ (· + ·) (Finset.sum_congr rfl fun k _ => ?_) (Finset.sum_congr rfl fun k _ => ?_)
  · exact congrArg₂ (· * ·) (hQ ⟨k.val, by omega⟩) rfl
  · exact congrArg₂ (· * ·) (hQ ⟨3584 + k.val, by omega⟩) rfl

end Cert.ReferenceIdeal.Value
-- ==== Proof.Value.Rotate.lean ====
/- The two rotations are one: the kernel's product with two blocks of 128 signs, normalised afterwards, and the
   reference's product with one block of normalised signs. -/
module

public import proofs.«01_k».proof.Proof.Value.Tile
public import proofs.«01_k».proof.Proof.Value.Table
public import proofs.«01_k».proof.Proof.Value.Reference

@[expose] public section

set_option maxRecDepth 16384

noncomputable section

open Idealize Idealize.ShloMosaic Cert.KernelIdeal

namespace Cert.KernelIdeal.Gen

/-- The kernel's Hadamard matrix. -/
def hadK : S256x256.Idx → EReal := fun i => FloatOps.ofBits (F := Ideal) .bf16 (lit0 (S256x256.rowMajor i))

/-- The number a table word is: a sign within a block of 128, zero across blocks. -/
theorem word_val (k q : ℕ) : Ideal.ofBits .bf16 (BitVec.ofNat 16 (Spec.word k q))
    = if (k / 128 + q / 128) % 2 = 0 then ReferenceIdeal.Value.sgn (Spec.shared k q) else 0 := by
  unfold Spec.word
  rcases Nat.mod_two_eq_zero_or_one (k / 128 + q / 128) with hb | hb <;>
    rcases Nat.even_or_odd (Spec.shared k q) with hs | hs <;> rw [hb]
  · rw [Nat.even_iff.mp hs, if_pos rfl, ReferenceIdeal.Value.sgn, hs.neg_one_pow]
    exact Ideal.ofBits_one_bf16
  · rw [Nat.odd_iff.mp hs, if_pos rfl, ReferenceIdeal.Value.sgn, hs.neg_one_pow]
    exact Ideal.ofBits_neg_one_bf16
  · rw [Nat.even_iff.mp hs, if_neg one_ne_zero]
    exact Ideal.ofBits_zero_bf16
  · rw [Nat.odd_iff.mp hs, if_neg one_ne_zero]
    show Ideal.ofBits .bf16 0x8000#16 = 0
    simp [Ideal.ofBits, Ideal.ieee]

theorem hadK_at (k q : Fin 256) : hadK (ix2 k q)
    = if (k.val / 128 + q.val / 128) % 2 = 0 then ReferenceIdeal.Value.sgn (Spec.shared k.val q.val) else 0 := by
  rw [← word_val, ← Spec.table_eq k.val q.val k.isLt q.isLt, BitVec.ofNat_toNat, BitVec.setWidth_eq]
  have e : (S256x256.rowMajor (ix2 k q)).val = 256 * k.val + q.val := by
    refine (Shape.rowMajor_val_two (d := ![256, 256]) (ix2 k q)).trans ?_
    show k.val * 256 + q.val = 256 * k.val + q.val
    omega
  show Ideal.ofBits .bf16 (lit0t (S256x256.rowMajor (ix2 k q)).val) = _
  rw [e]

/-- Only the low seven digits are compared. -/
theorem shared_mod (i j : ℕ) : Spec.shared i j = Spec.shared (i % 128) (j % 128) := by
  unfold Spec.shared
  rw [show i % 128 % 2 = i % 2 by omega, show i % 128 / 2 % 2 = i / 2 % 2 by omega, show i % 128 / 4 % 2 = i / 4 % 2 by omega,
    show i % 128 / 8 % 2 = i / 8 % 2 by omega, show i % 128 / 16 % 2 = i / 16 % 2 by omega,
    show i % 128 / 32 % 2 = i / 32 % 2 by omega, show i % 128 / 64 % 2 = i / 64 % 2 by omega,
    show j % 128 % 2 = j % 2 by omega, show j % 128 / 2 % 2 = j / 2 % 2 by omega, show j % 128 / 4 % 2 = j / 4 % 2 by omega,
    show j % 128 / 8 % 2 = j / 8 % 2 by omega, show j % 128 / 16 % 2 = j / 16 % 2 by omega,
    show j % 128 / 32 % 2 = j / 32 % 2 by omega, show j % 128 / 64 % 2 = j / 64 % 2 by omega]

/-- A sum over 256 that is zero outside one half is the sum over that half. -/
theorem sum_half (f : Fin 256 → EReal) (b : ℕ) (hb : b < 2) (h0 : ∀ k : Fin 256, k.val / 128 ≠ b → f k = 0) :
    ∑ k, f k = ∑ k : Fin 128, f ⟨128 * b + k.val, by omega⟩ := by
  have e : ∑ k : Fin (128 + 128), f k = (∑ k : Fin 128, f (Fin.castAdd 128 k)) + ∑ k : Fin 128, f (Fin.natAdd 128 k) :=
    Fin.sum_univ_add (a := 128) (b := 128) f
  refine e.trans ?_
  rcases (by omega : b = 0 ∨ b = 1) with rfl | rfl
  · rw [Finset.sum_eq_zero (s := Finset.univ) (f := fun k : Fin 128 => f (Fin.natAdd 128 k)) fun k _ => h0 _ (by
      show ¬ (128 + k.val) / 128 = 0
      omega), add_zero]
    refine Finset.sum_congr rfl fun k _ => congrArg f (Fin.ext ?_)
    show k.val = 128 * 0 + k.val
    omega
  · rw [Finset.sum_eq_zero (s := Finset.univ) (f := fun k : Fin 128 => f (Fin.castAdd 128 k)) fun k _ => h0 _ (by
      show ¬ k.val / 128 = 1
      omega), zero_add]
    refine Finset.sum_congr rfl fun k _ => congrArg f (Fin.ext ?_)
    show 128 + k.val = 128 * 1 + k.val
    omega

/-- The normalising factor goes into the sum. -/
theorem sum_norm {n : ℕ} (f : Fin n → EReal) : (∑ k, f k) * Spec.norm = ∑ k, f k * Spec.norm := by
  obtain ⟨r, hr, e⟩ := Spec.norm_eq
  rw [e]
  induction (Finset.univ : Finset (Fin n)) using Finset.induction_on with
  | empty => simp
  | insert x s hx ih =>
    rw [Finset.sum_insert hx, Finset.sum_insert hx, ← ih,
      EReal.right_distrib_of_nonneg_of_ne_top (EReal.coe_nonneg.mpr hr.le) (EReal.coe_ne_top r)]

/-- THE ROTATION: the kernel's equals the reference's at every row and column. -/
theorem rotK_eq (x : S1x256x7168.Idx → EReal) (X : S256x7168.Idx → EReal)
    (hX : ∀ (p : Fin 256) (q : Fin 7168), X (ix2 p q) = x (ix3 0 p q)) (p : Fin 256) (q : Fin 7168) :
    rotK X hadK p q.val = ReferenceIdeal.Value.rotated x (ix3 0 p q) := by
  rw [ReferenceIdeal.Value.rotated_at]
  unfold rotK
  rw [dif_pos q.isLt, sum_half _ (q.val % 256 / 128) (by omega), sum_norm]
  · refine Finset.sum_congr rfl fun k _ => ?_
    rw [hX, hadK_at, if_pos (by show ((128 * (q.val % 256 / 128) + k.val) / 128 + q.val % 256 / 128) % 2 = 0; omega), mul_assoc]
    have e1 : Spec.shared (128 * (q.val % 256 / 128) + k.val) (q.val % 256) = Spec.shared k.val (q.val % 128) := by
      rw [shared_mod, show (128 * (q.val % 256 / 128) + k.val) % 128 = k.val by omega, show q.val % 256 % 128 = q.val % 128 by omega]
    refine congrArg₂ (· * ·) (congrArg x ?_) (congrArg (fun n => ReferenceIdeal.Value.sgn n * Spec.norm) e1)
    refine congrArg (ix3 0 p) (Fin.ext ?_)
    show 256 * (q.val / 256) + (128 * (q.val % 256 / 128) + k.val) = q.val / 128 * 128 + k.val
    omega
  · intro k hk
    rw [hadK_at, if_neg (by show ¬ (k.val / 128 + q.val % 256 / 128) % 2 = 0; omega), mul_zero]

end Cert.KernelIdeal.Gen
-- ==== Proof.Value.Final.lean ====
/- The three results of the kernel are the three results of the reference. -/
module

public import proofs.«01_k».proof.Proof.Value.Run
public import proofs.«01_k».proof.Proof.Value.Nibble
public import proofs.«01_k».proof.Proof.Value.Rotate

@[expose] public section

set_option maxRecDepth 16384

noncomputable section

open Idealize Idealize.ShloMosaic Cert.KernelIdeal Pipeline

namespace Cert.KernelIdeal.Gen

/-- The clipped number at row `p` and column `q`. -/
def clipR (R : Fin 256 → ℕ → EReal) (p : Fin 256) (q : ℕ) : EReal := Spec.quant (Spec.step (Spec.rowMax (R p))) (R p q)

/-- A tile of the product at an index: the nibbles' products summed, scaled by the row's step and the column's scale. -/
theorem tileY_at (R : Fin 256 → ℕ → EReal) (w : S3584x1024.Idx → BitVec 8) (ws : S1x1024.Idx → EReal) (p : Fin 256) (l : Fin 1024) :
    tileY (quantA R) (stepW R) w ws (ix2 p l)
      = ((∑ k : Fin 3584, clipR R p k.val * ((Spec.lowNib (w (ix2 k l)) : ℝ) : EReal))
          + ∑ k : Fin 3584, clipR R p (3584 + k.val) * ((Spec.highNib (w (ix2 k l)) : ℝ) : EReal))
        * Spec.step (Spec.rowMax (R p)) * ws (ix2 0 l) := by
  choose n hn using fun q => Spec.quant_int (Spec.step (Spec.rowMax (R p))) (R p q)
  have hc : ∀ q, clipR R p q = ((n q : ℝ) : EReal) := fun q => (hn q).2.2
  simp only [hc]
  rw [← sixteenth_sum (fun k : Fin 3584 => (n k.val : ℝ)) (fun k => (n (3584 + k.val) : ℝ))]
  pointwise [tileY, k0_pay2]
  simp only [quantA, low_byte, high_byte, sitofp_low, sitofp_high, Spec.sixteenth_eq]
  refine congrArg₂ (· * ·) (congrArg₂ (· * ·) (congrArg₂ (· * ·) (congrArg₂ (· + ·) ?_ ?_) rfl) rfl) rfl
  · exact Finset.sum_congr rfl fun k _ => congrArg (· * _) (hn k.val).2.2
  · exact Finset.sum_congr rfl fun k _ => congrArg (· * _) (hn (3584 + k.val)).2.2

/-- The activations without the leading axis of length one. -/
theorem flat_x (x : S1x256x7168.Idx → EReal) (p : Fin 256) (q : Fin 7168) :
    shapeCast S256x7168 x shapeCasts_S1x256x7168_S256x7168 (ix2 p q) = x (ix3 0 p q) := by
  pointwise

/-- The columns' scales with a leading axis of length one. -/
theorem flat_s (x : S18432.Idx → EReal) (n : Fin 18432) :
    shapeCast S1x18432 x shapeCasts_S18432_S1x18432 (ix2 0 n) = x (ix1 n) := by
  pointwise

variable (m : (ℓ : Loc nD τ sig) → Buf (Elt Ideal) ℓ)

/-- The kernel's input array, as the reference reads it. -/
abbrev argX (c : Dev nD) : FVec Ideal S1x256x7168 .f32 := m ((c.tc : Thread nD τ).loc main_arg0)

/-- The packed weights. -/
abbrev argW (c : Dev nD) : IVec S3584x18432 8 := m ((c.tc : Thread nD τ).loc main_arg1)

/-- The columns' scales. -/
abbrev argS (c : Dev nD) : FVec Ideal S18432 .f32 := m ((c.tc : Thread nD τ).loc main_arg2)

/-- The reference's rotated activations, of the kernel's input. -/
abbrev refR (c : Dev nD) : FVec Ideal S1x256x7168 .f32 := ReferenceIdeal.Value.rotated (argX m c)

/-- The reference's row steps, of the kernel's input. -/
abbrev refS (c : Dev nD) : FVec Ideal S1x256 .f32 := ReferenceIdeal.Value.scale (ReferenceIdeal.Value.peak (refR m c))

/-- The reference's codes, of the kernel's input. -/
abbrev refQ (c : Dev nD) : IVec S1x256x7168 8 := ReferenceIdeal.Value.codes (ReferenceIdeal.Value.clipped (refR m c) (refS m c))

/-- The two rotations agree. -/
theorem rotR_eq (c : Dev nD) (p : Fin 256) (q : Fin 7168) : rotR m c p q.val = refR m c (ix3 0 p q) := by
  unfold rotR
  rw [V_main_v0, V_main_cst]
  exact rotK_eq _ _ (fun p q => flat_x _ p q) p q

/-- The two row steps agree. -/
theorem refS_at (c : Dev nD) (p : Fin 256) : refS m c (ix2 0 p) = Spec.step (Spec.rowMax (rotR m c p)) := by
  rw [refS, ReferenceIdeal.Value.scale_at, ReferenceIdeal.Value.peak_at _ p (rotR m c p) fun q => (rotR_eq m c p q).symm]

/-- The third result: the row steps. -/
theorem steps_eq (c : Dev nD) : (stepT (rotR m c) : S1x256.Idx → EReal) = refS m c := by
  funext j
  idx_vars j
  have h0 : j0 = 0 := Subsingleton.elim _ _
  subst h0
  exact (refS_at m c j1).symm

/-- The reference's clipped numbers are the kernel's. -/
theorem clip_eq (c : Dev nD) (p : Fin 256) (q : Fin 7168) :
    ReferenceIdeal.Value.clipped (refR m c) (refS m c) (ix3 0 p q) = Spec.quant (Spec.step (Spec.rowMax (rotR m c p))) (rotR m c p q.val) := by
  rw [ReferenceIdeal.Value.clipped_at, refS_at, rotR_eq]

/-- A code of the reference. -/
theorem refQ_at (c : Dev nD) (p : Fin 256) (q : Fin 7168) :
    refQ m c (ix3 0 p q) = Ideal.fptosi 8 (Spec.quant (Spec.step (Spec.rowMax (rotR m c p))) (rotR m c p q.val)) :=
  ReferenceIdeal.Value.codes_at _ _ _ _ (clip_eq m c p q)

/-- The second result: the codes. -/
theorem codes_eq (c : Dev nD) :
    shapeCast S1x256x7168 (codeA (rotR m c) : S256x7168.Idx → BitVec 8) shapeCasts_S256x7168_S1x256x7168 = refQ m c := by
  funext j
  idx_vars j
  have h0 : j0 = 0 := Subsingleton.elim _ _
  subst h0
  rw [refQ_at]
  pointwise
  rfl

/-- A step's block of the packed weights. -/
theorem iblk2 (c : Dev nD) (t : Fin cfg0.N) (k : Fin 3584) (l : Fin 1024) (n : Fin 18432) (hn : n.val = 1024 * t.val + l.val) :
    (iblk m c 2 t : S3584x1024.Idx → BitVec 8) (ix2 k l) = argW m c (ix2 k n) := by
  blk_simp [iblk, index0_2]
  rw [V_main_arg1]
  refine congrArg (argW m c) ?_
  blk_ext [index0_2]

/-- A step's block of the columns' scales. -/
theorem iblk3 (c : Dev nD) (t : Fin cfg0.N) (l : Fin 1024) (n : Fin 18432) (hn : n.val = 1024 * t.val + l.val) :
    (iblk m c 3 t : S1x1024.Idx → EReal) (ix2 0 l) = argS m c (ix1 n) := by
  have e : (V m c main_v1 : S1x18432.Idx → EReal) (ix2 0 n) = argS m c (ix1 n) := by
    rw [V_main_v1]
    exact flat_s _ n
  rw [← e]
  blk_simp [iblk, index0_3]
  refine congrArg (V m c main_v1) ?_
  blk_ext [index0_3]

/-- The first result: the product. -/
theorem product_eq (c : Dev nD) :
    shapeCast S1x256x18432 (yK m c : S256x18432.Idx → EReal) shapeCasts_S256x18432_S1x256x18432
      = ReferenceIdeal.Value.product (refQ m c) (refS m c) (argW m c) (argS m c) := by
  funext j
  idx_vars j
  have h0 : j0 = 0 := Subsingleton.elim _ _
  subst h0
  rw [ReferenceIdeal.Value.product_at _ _ _ _ _ _ (clipR (rotR m c) j1) fun k => by rw [refQ_at, Spec.code_back, clipR]]
  have ht : j2.val / 1024 < cfg0.N := lt_of_lt_of_eq (Nat.div_lt_of_lt_mul j2.isLt) N_0.symm
  have hj : j2.val = 1024 * (j2.val / 1024) + j2.val % 1024 := (Nat.div_add_mod _ _).symm
  have ey : (yK m c : S256x18432.Idx → EReal) (ix2 j1 j2) = _ :=
    yK_at m c ⟨j2.val / 1024, ht⟩ (ix2 j1 j2) (ix2 j1 ⟨j2.val % 1024, Nat.mod_lt _ (by decide)⟩) rfl hj
  rw [tileY_at] at ey
  simp only [iblk3 m c ⟨j2.val / 1024, ht⟩ ⟨j2.val % 1024, Nat.mod_lt _ (by decide)⟩ j2 hj,
    fun k => iblk2 m c ⟨j2.val / 1024, ht⟩ k ⟨j2.val % 1024, Nat.mod_lt _ (by decide)⟩ j2 hj] at ey
  rw [refS_at, ← ey]
  pointwise

end Cert.KernelIdeal.Gen
-- ==== Proof.lean ====
module

public import proofs.«01_k».proof.Defs
public import proofs.«01_k».proof.Proof.Gen.Kernel
public import proofs.«01_k».proof.Proof.BodyK.Launch
public import proofs.«01_k».proof.Proof.Gen.KernelIdeal
public import proofs.«01_k».proof.Proof.Body.Launch
public import proofs.«01_k».proof.Proof.Gen.ReferenceIdeal
public import proofs.«01_k».proof.Proof.Gen.ReferenceIdeal.Run
public import proofs.«01_k».proof.Proof.Value.Final
public import Idealize.ShloMosaic.Adequacy
public import Idealize.ShloMosaic.Init

@[expose] public section

noncomputable section

namespace Cert.Proof

open Idealize.ShloMosaic Idealize.SL.Sem

/-- The kernel at machine words runs, leaves its arguments as they were and every semaphore at zero. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference over the extended reals, which declares no semaphore. -/
theorem frame_reference : Cert.quiescent_ReferenceIdeal := fun m ρ _ =>
  (θ_run Cert.ReferenceIdeal.defs _ _).mono
    (fun r h => ⟨fun c => ⟨(h c).2.2.2.1, (h c).2.2.2.2.1, (h c).2.2.2.2.2⟩, Idealize.ShloMosaic.sem_eq_zero_of_no_sems (by decide) r.2⟩)
    (Cert.ReferenceIdeal.Value.run (F := Ideal) m ρ)

/-- Over the extended reals the kernel's product, codes and row steps are the reference's. -/
theorem algebraic : Cert.algebraic_KernelIdeal_ReferenceIdeal := fun m g m' g' _ ha => by
  refine ⟨_, _, _, Cert.KernelIdeal.Gen.run_value m g, ?_⟩
  refine (θ_run Cert.ReferenceIdeal.defs _ _).mono (fun r h c => ?_) (Cert.ReferenceIdeal.Value.run (F := Ideal) m' g')
  obtain ⟨h0, h1, h2, h3⟩ := h c
  obtain ⟨a0, a1, a2⟩ := ha c
  refine ⟨h0.trans ?_, h1.trans ?_, h2.trans ?_, h3⟩
  · rw [Cert.ReferenceIdeal.Value.out0_eq, a0, a1, a2]
    exact (Cert.KernelIdeal.Gen.product_eq m c).symm
  · rw [Cert.ReferenceIdeal.Value.out1_eq, a0]
    exact (Cert.KernelIdeal.Gen.codes_eq m c).symm
  · rw [Cert.ReferenceIdeal.Value.out2_eq, a0]
    exact (Cert.KernelIdeal.Gen.steps_eq m c).symm

theorem claim : Cert.Claim := ⟨Cert.Kernel.Gen.facts, Cert.KernelIdeal.Gen.facts, Cert.ReferenceIdeal.Gen.facts,
  frame_kernel, frame_kernelIdeal, frame_reference, trivial, algebraic⟩

end Cert.Proof

end
